-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x2x20 : Shape := ⟨3, ![512, 2, 20]⟩
abbrev S_ : Shape := ⟨0, ![]⟩
abbrev S20x16x8 : Shape := ⟨3, ![20, 16, 8]⟩
abbrev S20x16x16 : Shape := ⟨3, ![20, 16, 16]⟩
abbrev S256 : Shape := ⟨1, ![256]⟩
abbrev S512 : Shape := ⟨1, ![512]⟩
abbrev S2 : Shape := ⟨1, ![2]⟩
abbrev S4 : Shape := ⟨1, ![4]⟩
abbrev S4x64 : Shape := ⟨2, ![4, 64]⟩
abbrev S64 : Shape := ⟨1, ![64]⟩

class Facts : Prop where
  bcast_S_S512x2x20 : S_.BroadcastsInDim S512x2x20 (![] : Fin 0 → Fin S512x2x20.rank)
  reducesTo_S512x2x20_S_d0_1_2 : S512x2x20.ReducesTo [0, 1, 2] S_
  h_S_ : 0 < S_.numel
  bcast_S_S2 : S_.BroadcastsInDim S2 (![] : Fin 0 → Fin S2.rank)
  reducesTo_S2_S_d0 : S2.ReducesTo [0] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S_ .f32) (main_arg10 : FVec F S_ .f32) (main_arg12 : FVec F S_ .f32) (main_arg14 : FVec F S_ .f32) (main_arg16 : FVec F S_ .f32) (main_arg20 : FVec F S_ .f32) (main_v33 : IVec S_ 1) : IVec S_ 1 :=
  let main_v34 : FVec F S_ .f32 := Host.absf main_arg8
  let main_cst_12 : FVec F S_ .f32 := constant S_ .f32 0x7F800000#32
  let main_v35 : IVec S_ 1 := cmpf .olt main_v34 main_cst_12
  let main_v36 : IVec S_ 1 := andi main_v33 main_v35
  let main_v37 : FVec F S_ .f32 := Host.absf main_arg10
  let main_cst_13 : FVec F S_ .f32 := constant S_ .f32 0x7F800000#32
  let main_v38 : IVec S_ 1 := cmpf .olt main_v37 main_cst_13
  let main_v39 : IVec S_ 1 := andi main_v36 main_v38
  let main_v40 : FVec F S_ .f32 := Host.absf main_arg12
  let main_cst_14 : FVec F S_ .f32 := constant S_ .f32 0x7F800000#32
  let main_v41 : IVec S_ 1 := cmpf .olt main_v40 main_cst_14
  let main_v42 : IVec S_ 1 := andi main_v39 main_v41
  let main_v43 : FVec F S_ .f32 := Host.absf main_arg14
  let main_cst_15 : FVec F S_ .f32 := constant S_ .f32 0x7F800000#32
  let main_v44 : IVec S_ 1 := cmpf .olt main_v43 main_cst_15
  let main_v45 : IVec S_ 1 := andi main_v42 main_v44
  let main_v46 : FVec F S_ .f32 := Host.absf main_arg16
  let main_cst_16 : FVec F S_ .f32 := constant S_ .f32 0x7F800000#32
  let main_v47 : IVec S_ 1 := cmpf .olt main_v46 main_cst_16
  let main_v48 : IVec S_ 1 := andi main_v45 main_v47
  let main_v49 : FVec F S_ .f32 := Host.absf main_arg20
  let main_cst_17 : FVec F S_ .f32 := constant S_ .f32 0x7F800000#32
  let main_v50 : IVec S_ 1 := cmpf .olt main_v49 main_cst_17
  let main_v51 : IVec S_ 1 := andi main_v48 main_v50
  main_v51

def fn_part1 {F : FTy → Type} [FloatOps F] (main_arg8 : FVec F S_ .f32) (main_arg10 : FVec F S_ .f32) (main_arg12 : FVec F S_ .f32) (main_arg13 : FVec F S2 .f32) (main_arg14 : FVec F S_ .f32) (main_arg15 : FVec F S4 .f32) (main_arg16 : FVec F S_ .f32) (main_arg19 : FVec F S2 .f32) (main_arg20 : FVec F S_ .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S2 .f32 := Host.absf main_arg13
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S4 .f32 := Host.absf main_arg15
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S2 .f32 := Host.absf main_arg19
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg10 main_arg12 main_arg14 main_arg16 main_arg20 main_v33

def fn {F : FTy → Type} [FloatOps F] (main_arg0 : FVec F S512x2x20 .f32) (main_arg1 : IVec S_ 32) (main_arg2 : IVec S_ 32) (main_arg3 : FVec F S20x16x8 .f32) (main_arg4 : FVec F S20x16x16 .f32) (main_arg5 : IVec S256 32) (main_arg6 : IVec S512 32) (main_arg7 : FVec F S2 .f32) (main_arg8 : FVec F S_ .f32) (main_arg9 : FVec F S2 .f32) (main_arg10 : FVec F S_ .f32) (main_arg11 : FVec F S2 .f32) (main_arg12 : FVec F S_ .f32) (main_arg13 : FVec F S2 .f32) (main_arg14 : FVec F S_ .f32) (main_arg15 : FVec F S4 .f32) (main_arg16 : FVec F S_ .f32) (main_arg17 : FVec F S4x64 .f32) (main_arg18 : FVec F S64 .f32) (main_arg19 : FVec F S2 .f32) (main_arg20 : FVec F S_ .f32) : IVec S_ 1 :=
  let main_v0 : FVec F S512x2x20 .f32 := Host.absf main_arg0
  let main_cst : FVec F S_ .f32 := constant S_ .f32 0x7F800000#32
  let main_v1 : FVec F S512x2x20 .f32 := broadcastInDim S512x2x20 ![] bcast_S_S512x2x20 main_cst
  let main_v2 : IVec S512x2x20 1 := cmpf .olt main_v0 main_v1
  let main_c : IVec S_ 1 := constantI S_ 1 1#1
  let main_v3 : IVec S_ 1 := (fun x v => Host.reduce IntOp.andi x v reducesTo_S512x2x20_S_d0_1_2 h_S_) main_v2 main_c
  let main_v4 : FVec F S2 .f32 := Host.absf main_arg7
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  let main_v9 : FVec F S2 .f32 := Host.absf main_arg9
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2 .f32 := Host.absf main_arg11
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg8 main_arg10 main_arg12 main_arg13 main_arg14 main_arg15 main_arg16 main_arg19 main_arg20 main_v13 main_v16
-- ==== Kernel.lean ====
abbrev S512x2x20 : Shape := ⟨3, ![512, 2, 20]⟩
abbrev S_ : Shape := ⟨0, ![]⟩
abbrev S20x16x8 : Shape := ⟨3, ![20, 16, 8]⟩
abbrev S20x16x16 : Shape := ⟨3, ![20, 16, 16]⟩
abbrev S256 : Shape := ⟨1, ![256]⟩
abbrev S512 : Shape := ⟨1, ![512]⟩
abbrev S2 : Shape := ⟨1, ![2]⟩
abbrev S4 : Shape := ⟨1, ![4]⟩
abbrev S4x64 : Shape := ⟨2, ![4, 64]⟩
abbrev S64 : Shape := ⟨1, ![64]⟩
abbrev S512x40 : Shape := ⟨2, ![512, 40]⟩
abbrev S40x512 : Shape := ⟨2, ![40, 512]⟩
abbrev S40x1x512 : Shape := ⟨3, ![40, 1, 512]⟩
abbrev S1 : Shape := ⟨1, ![1]⟩
abbrev S12 : Shape := ⟨1, ![12]⟩
abbrev S1x256 : Shape := ⟨2, ![1, 256]⟩
abbrev S512x1 : Shape := ⟨2, ![512, 1]⟩
abbrev S512x256 : Shape := ⟨2, ![512, 256]⟩
abbrev S19x512x512 : Shape := ⟨3, ![19, 512, 512]⟩
abbrev S1x1x512 : Shape := ⟨3, ![1, 1, 512]⟩
abbrev S1x512x512 : Shape := ⟨3, ![1, 512, 512]⟩
abbrev S1x512 : Shape := ⟨2, ![1, 512]⟩
abbrev S1x1 : Shape := ⟨2, ![1, 1]⟩
abbrev S8x1 : Shape := ⟨2, ![8, 1]⟩
abbrev S8x512 : Shape := ⟨2, ![8, 512]⟩
abbrev S1x8x512 : Shape := ⟨3, ![1, 8, 512]⟩

abbrev nBuf : Space → Nat
  | .hbm => 122
  | .vmem => 11
  | .smem => 1
  | _ => 0

abbrev bufTy : (tb : Table) → Fin (tcTables nBuf tb) → BufTy
  | .hbm, ⟨0, _⟩ => ⟨S512x2x20, .f32⟩
  | .hbm, ⟨1, _⟩ => ⟨S_, .i32⟩
  | .hbm, ⟨2, _⟩ => ⟨S_, .i32⟩
  | .hbm, ⟨3, _⟩ => ⟨S20x16x8, .f32⟩
  | .hbm, ⟨4, _⟩ => ⟨S20x16x16, .f32⟩
  | .hbm, ⟨5, _⟩ => ⟨S256, .i32⟩
  | .hbm, ⟨6, _⟩ => ⟨S512, .i32⟩
  | .hbm, ⟨7, _⟩ => ⟨S2, .f32⟩
  | .hbm, ⟨8, _⟩ => ⟨S_, .f32⟩
  | .hbm, ⟨9, _⟩ => ⟨S2, .f32⟩
  | .hbm, ⟨10, _⟩ => ⟨S_, .f32⟩
  | .hbm, ⟨11, _⟩ => ⟨S2, .f32⟩
  | .hbm, ⟨12, _⟩ => ⟨S_, .f32⟩
  | .hbm, ⟨13, _⟩ => ⟨S2, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S4x64, .f32⟩
  | .hbm, ⟨18, _⟩ => ⟨S64, .f32⟩
  | .hbm, ⟨19, _⟩ => ⟨S2, .f32⟩
  | .hbm, ⟨20, _⟩ => ⟨S_, .f32⟩
  | .hbm, ⟨21, _⟩ => ⟨S512x40, .f32⟩
  | .hbm, ⟨22, _⟩ => ⟨S40x512, .f32⟩
  | .hbm, ⟨23, _⟩ => ⟨S40x1x512, .f32⟩
  | .hbm, ⟨24, _⟩ => ⟨S1, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S_, .f32⟩
  | .hbm, ⟨44, _⟩ => ⟨S1, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S_, .f32⟩
  | .hbm, ⟨53, _⟩ => ⟨S_, .f32⟩
  | .hbm, ⟨54, _⟩ => ⟨S1, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S_, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S_, .f32⟩
  | .hbm, ⟨64, _⟩ => ⟨S1, .f32⟩
  | .hbm, ⟨65, _⟩ => ⟨S_, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1, .f32⟩
  | .hbm, ⟨81, _⟩ => ⟨S_, .f32⟩
  | .hbm, ⟨82, _⟩ => ⟨S1, .f32⟩
  | .hbm, ⟨83, _⟩ => ⟨S_, .f32⟩
  | .hbm, ⟨84, _⟩ => ⟨S1, .f32⟩
  | .hbm, ⟨85, _⟩ => ⟨S1, .f32⟩
  | .hbm, ⟨86, _⟩ => ⟨S1, .f32⟩
  | .hbm, ⟨87, _⟩ => ⟨S1, .f32⟩
  | .hbm, ⟨88, _⟩ => ⟨S1, .f32⟩
  | .hbm, ⟨89, _⟩ => ⟨S1, .f32⟩
  | .hbm, ⟨90, _⟩ => ⟨S1, .f32⟩
  | .hbm, ⟨91, _⟩ => ⟨S1, .f32⟩
  | .hbm, ⟨92, _⟩ => ⟨S1, .f32⟩
  | .hbm, ⟨93, _⟩ => ⟨S1, .f32⟩
  | .hbm, ⟨94, _⟩ => ⟨S1, .f32⟩
  | .hbm, ⟨95, _⟩ => ⟨S1, .f32⟩
  | .hbm, ⟨96, _⟩ => ⟨S12, .f32⟩
  | .hbm, ⟨97, _⟩ => ⟨S512, .i32⟩
  | .hbm, ⟨98, _⟩ => ⟨S512, .i32⟩
  | .hbm, ⟨99, _⟩ => ⟨S512, .i32⟩
  | .hbm, ⟨100, _⟩ => ⟨S1x256, .i32⟩
  | .hbm, ⟨101, _⟩ => ⟨S512x1, .i32⟩
  | .hbm, ⟨102, _⟩ => ⟨S512x256, .i32⟩
  | .hbm, ⟨103, _⟩ => ⟨S512x256, .i32⟩
  | .hbm, ⟨104, _⟩ => ⟨S512x256, .i1⟩
  | .hbm, ⟨105, _⟩ => ⟨S_, .i1⟩
  | .hbm, ⟨106, _⟩ => ⟨S512, .i1⟩
  | .hbm, ⟨107, _⟩ => ⟨S_, .i32⟩
  | .hbm, ⟨108, _⟩ => ⟨S512, .i32⟩
  | .hbm, ⟨109, _⟩ => ⟨S512, .i1⟩
  | .hbm, ⟨110, _⟩ => ⟨S_, .f32⟩
  | .hbm, ⟨111, _⟩ => ⟨S_, .f32⟩
  | .hbm, ⟨112, _⟩ => ⟨S512, .f32⟩
  | .hbm, ⟨113, _⟩ => ⟨S512, .f32⟩
  | .hbm, ⟨114, _⟩ => ⟨S512, .f32⟩
  | .hbm, ⟨115, _⟩ => ⟨S512, .f32⟩
  | .hbm, ⟨116, _⟩ => ⟨S_, .f32⟩
  | .hbm, ⟨117, _⟩ => ⟨S_, .f32⟩
  | .hbm, ⟨118, _⟩ => ⟨S512, .f32⟩
  | .hbm, ⟨119, _⟩ => ⟨S512, .f32⟩
  | .hbm, ⟨120, _⟩ => ⟨S512x1, .f32⟩
  | .hbm, ⟨121, _⟩ => ⟨S19x512x512, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S512x1, .f32⟩
  | .local _ .vmem, ⟨9, _⟩ => ⟨S1x512x512, .f32⟩
  | .local _ .vmem, ⟨10, _⟩ => ⟨S1x512x512, .f32⟩
  | .local _ .smem, ⟨0, _⟩ => ⟨S12, .f32⟩
  | _, _ => ⟨S512x2x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c : Ref sig .tc := ⟨.hbm, 105, rfl⟩
abbrev main_v84 : Ref sig .tc := ⟨.hbm, 106, rfl⟩
abbrev main_c_0 : Ref sig .tc := ⟨.hbm, 107, rfl⟩
abbrev main_v85 : Ref sig .tc := ⟨.hbm, 108, rfl⟩
abbrev main_v86 : Ref sig .tc := ⟨.hbm, 109, rfl⟩
abbrev main_cst : Ref sig .tc := ⟨.hbm, 110, rfl⟩
abbrev main_cst_1 : Ref sig .tc := ⟨.hbm, 111, rfl⟩
abbrev main_call0_v0 : Ref sig .tc := ⟨.hbm, 112, rfl⟩
abbrev main_call0_v1 : Ref sig .tc := ⟨.hbm, 113, rfl⟩
abbrev main_v87 : Ref sig .tc := ⟨.hbm, 114, rfl⟩
abbrev main_v88 : Ref sig .tc := ⟨.hbm, 115, rfl⟩
abbrev main_cst_2 : Ref sig .tc := ⟨.hbm, 116, rfl⟩
abbrev main_call1_v0 : Ref sig .tc := ⟨.hbm, 117, rfl⟩
abbrev main_call1_v1 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![19], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c21_i32 : BitVec 32 := 21#32
  let v0 : BitVec 32 := Scalar.addi arg0 c21_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S512x2x20 : Shape := ⟨3, ![512, 2, 20]⟩
abbrev S_ : Shape := ⟨0, ![]⟩
abbrev S20x16x8 : Shape := ⟨3, ![20, 16, 8]⟩
abbrev S20x16x16 : Shape := ⟨3, ![20, 16, 16]⟩
abbrev S256 : Shape := ⟨1, ![256]⟩
abbrev S512 : Shape := ⟨1, ![512]⟩
abbrev S2 : Shape := ⟨1, ![2]⟩
abbrev S4 : Shape := ⟨1, ![4]⟩
abbrev S4x64 : Shape := ⟨2, ![4, 64]⟩
abbrev S64 : Shape := ⟨1, ![64]⟩
abbrev S20x512x2 : Shape := ⟨3, ![20, 512, 2]⟩
abbrev S19x512x2 : Shape := ⟨3, ![19, 512, 2]⟩
abbrev S19x512 : Shape := ⟨2, ![19, 512]⟩
abbrev S19x512x1 : Shape := ⟨3, ![19, 512, 1]⟩
abbrev S19x1x1 : Shape := ⟨3, ![19, 1, 1]⟩
abbrev S19x1 : Shape := ⟨2, ![19, 1]⟩
abbrev S1 : Shape := ⟨1, ![1]⟩
abbrev S19x512x4 : Shape := ⟨3, ![19, 512, 4]⟩
abbrev S19x1x512x2 : Shape := ⟨4, ![19, 1, 512, 2]⟩
abbrev S19x512x1x2 : Shape := ⟨4, ![19, 512, 1, 2]⟩
abbrev S19x512x512x2 : Shape := ⟨4, ![19, 512, 512, 2]⟩
abbrev S19x512x512 : Shape := ⟨3, ![19, 512, 512]⟩
abbrev S19x512x512x1 : Shape := ⟨4, ![19, 512, 512, 1]⟩
abbrev S19x1x512 : Shape := ⟨3, ![19, 1, 512]⟩
abbrev S1x512x1 : Shape := ⟨3, ![1, 512, 1]⟩
abbrev S1x256 : Shape := ⟨2, ![1, 256]⟩
abbrev S512x1 : Shape := ⟨2, ![512, 1]⟩
abbrev S512x256 : Shape := ⟨2, ![512, 256]⟩
abbrev S512x512 : Shape := ⟨2, ![512, 512]⟩
abbrev S1x512x512 : Shape := ⟨3, ![1, 512, 512]⟩

abbrev nBuf : Space → Nat
  | .hbm => 236
  | .vmem => 0
  | .smem => 0
  | _ => 0

abbrev hbmTy0_0 (i : Nat) : BufTy := match i % 128 with
  | 0 => ⟨S512x2x20, .f32⟩
  | 1 => ⟨S_, .i32⟩
  | 2 => ⟨S_, .i32⟩
  | 3 => ⟨S20x16x8, .f32⟩
  | 4 => ⟨S20x16x16, .f32⟩
  | 5 => ⟨S256, .i32⟩
  | 6 => ⟨S512, .i32⟩
  | 7 => ⟨S2, .f32⟩
  | 8 => ⟨S_, .f32⟩
  | 9 => ⟨S2, .f32⟩
  | 10 => ⟨S_, .f32⟩
  | 11 => ⟨S2, .f32⟩
  | 12 => ⟨S_, .f32⟩
  | 13 => ⟨S2, .f32⟩
  | 14 => ⟨S_, .f32⟩
  | 15 => ⟨S4, .f32⟩
  | 16 => ⟨S_, .f32⟩
  | 17 => ⟨S4x64, .f32⟩
  | 18 => ⟨S64, .f32⟩
  | 19 => ⟨S2, .f32⟩
  | 20 => ⟨S_, .f32⟩
  | 21 => ⟨S20x512x2, .f32⟩
  | 22 => ⟨S19x512x2, .f32⟩
  | 23 => ⟨S19x512x2, .f32⟩
  | 24 => ⟨S19x512x2, .f32⟩
  | 25 => ⟨S19x512x2, .f32⟩
  | 26 => ⟨S_, .f32⟩
  | 27 => ⟨S19x512, .f32⟩
  | 28 => ⟨S_, .f32⟩
  | 29 => ⟨S19x512, .f32⟩
  | 30 => ⟨S19x512, .f32⟩
  | 31 => ⟨S19x512, .f32⟩
  | 32 => ⟨S_, .f32⟩
  | 33 => ⟨S19x512, .f32⟩
  | 34 => ⟨S19x512, .f32⟩
  | 35 => ⟨S19x512x1, .f32⟩
  | 36 => ⟨S19x512, .f32⟩
  | 37 => ⟨S19x512x1, .f32⟩
  | 38 => ⟨S19x512, .f32⟩
  | 39 => ⟨S19x512, .f32⟩
  | 40 => ⟨S19x1x1, .f32⟩
  | 41 => ⟨S19x1, .f32⟩
  | 42 => ⟨S19x1x1, .f32⟩
  | 43 => ⟨S19x1, .f32⟩
  | 44 => ⟨S19x1, .f32⟩
  | 45 => ⟨S19x1, .f32⟩
  | 46 => ⟨S19x512x1, .f32⟩
  | 47 => ⟨S19x512, .f32⟩
  | 48 => ⟨S19x512, .f32⟩
  | 49 => ⟨S19x512, .f32⟩
  | 50 => ⟨S19x512, .f32⟩
  | 51 => ⟨S19x512x1, .f32⟩
  | 52 => ⟨S19x512, .f32⟩
  | 53 => ⟨S19x512, .f32⟩
  | 54 => ⟨S19x512, .f32⟩
  | 55 => ⟨S19x512, .f32⟩
  | 56 => ⟨S19x512, .f32⟩
  | 57 => ⟨S_, .f32⟩
  | 58 => ⟨S19x512, .f32⟩
  | 59 => ⟨S19x512, .f32⟩
  | 60 => ⟨S19x512, .f32⟩
  | 61 => ⟨S_, .f32⟩
  | 62 => ⟨S19x512, .f32⟩
  | 63 => ⟨S19x512, .i1⟩
  | 64 => ⟨S19x512, .f32⟩
  | 65 => ⟨S19x512x1, .f32⟩
  | 66 => ⟨S19x512, .f32⟩
  | 67 => ⟨S19x512, .f32⟩
  | 68 => ⟨S1, .f32⟩
  | 69 => ⟨S_, .f32⟩
  | 70 => ⟨S19x512, .f32⟩
  | 71 => ⟨S19x512, .f32⟩
  | 72 => ⟨S19x512, .f32⟩
  | 73 => ⟨S1, .f32⟩
  | 74 => ⟨S_, .f32⟩
  | 75 => ⟨S19x512, .f32⟩
  | 76 => ⟨S19x512, .f32⟩
  | 77 => ⟨S19x512, .f32⟩
  | 78 => ⟨S19x512, .f32⟩
  | 79 => ⟨S19x512, .f32⟩
  | 80 => ⟨S19x512x1, .f32⟩
  | 81 => ⟨S19x512, .f32⟩
  | 82 => ⟨S19x512, .f32⟩
  | 83 => ⟨S1, .f32⟩
  | 84 => ⟨S_, .f32⟩
  | 85 => ⟨S19x512, .f32⟩
  | 86 => ⟨S19x512, .f32⟩
  | 87 => ⟨S19x512, .f32⟩
  | 88 => ⟨S1, .f32⟩
  | 89 => ⟨S_, .f32⟩
  | 90 => ⟨S19x512, .f32⟩
  | 91 => ⟨S19x512, .f32⟩
  | 92 => ⟨S19x512, .f32⟩
  | 93 => ⟨S19x512, .f32⟩
  | 94 => ⟨S19x512, .f32⟩
  | 95 => ⟨S19x512, .f32⟩
  | 96 => ⟨S1, .f32⟩
  | 97 => ⟨S_, .f32⟩
  | 98 => ⟨S19x512, .f32⟩
  | 99 => ⟨S19x512, .f32⟩
  | 100 => ⟨S19x512, .f32⟩
  | 101 => ⟨S1, .f32⟩
  | 102 => ⟨S_, .f32⟩
  | 103 => ⟨S19x512, .f32⟩
  | 104 => ⟨S19x512, .f32⟩
  | 105 => ⟨S19x512, .f32⟩
  | 106 => ⟨S19x512, .f32⟩
  | 107 => ⟨S19x512, .f32⟩
  | 108 => ⟨S19x512, .f32⟩
  | 109 => ⟨S1, .f32⟩
  | 110 => ⟨S_, .f32⟩
  | 111 => ⟨S19x512, .f32⟩
  | 112 => ⟨S19x512, .f32⟩
  | 113 => ⟨S19x512, .f32⟩
  | 114 => ⟨S1, .f32⟩
  | 115 => ⟨S_, .f32⟩
  | 116 => ⟨S19x512, .f32⟩
  | 117 => ⟨S19x512, .f32⟩
  | 118 => ⟨S19x512, .f32⟩
  | 119 => ⟨S19x512, .f32⟩
  | 120 => ⟨S19x512, .f32⟩
  | 121 => ⟨S19x512x1, .f32⟩
  | 122 => ⟨S19x512x1, .f32⟩
  | 123 => ⟨S19x512x1, .f32⟩
  | 124 => ⟨S19x512x1, .f32⟩
  | 125 => ⟨S19x512x4, .f32⟩
  | 126 => ⟨S19x512, .f32⟩
  | 127 => ⟨S19x512, .f32⟩
  | _ => ⟨S512x2x20, .f32⟩

abbrev hbmTy0_1 (i : Nat) : BufTy := match i % 128 with
  | 0 => ⟨S19x512, .f32⟩
  | 1 => ⟨S19x1x512x2, .f32⟩
  | 2 => ⟨S19x512x1x2, .f32⟩
  | 3 => ⟨S19x512x512x2, .f32⟩
  | 4 => ⟨S19x512x512x2, .f32⟩
  | 5 => ⟨S19x512x512x2, .f32⟩
  | 6 => ⟨S19x512x512x2, .f32⟩
  | 7 => ⟨S_, .f32⟩
  | 8 => ⟨S19x512x512, .f32⟩
  | 9 => ⟨S19x512x512x1, .f32⟩
  | 10 => ⟨S19x512x512, .f32⟩
  | 11 => ⟨S19x512x512x1, .f32⟩
  | 12 => ⟨S19x512x512, .f32⟩
  | 13 => ⟨S19x512x512, .f32⟩
  | 14 => ⟨S19x512x1, .f32⟩
  | 15 => ⟨S19x1x512, .f32⟩
  | 16 => ⟨S19x512x1, .f32⟩
  | 17 => ⟨S19x1x512, .f32⟩
  | 18 => ⟨S_, .f32⟩
  | 19 => ⟨S_, .f32⟩
  | 20 => ⟨S_, .f32⟩
  | 21 => ⟨S19x512x1, .f32⟩
  | 22 => ⟨S19x512x1, .f32⟩
  | 23 => ⟨S19x512x512, .f32⟩
  | 24 => ⟨S19x512x512, .i1⟩
  | 25 => ⟨S19x512x1, .f32⟩
  | 26 => ⟨S19x512x1, .f32⟩
  | 27 => ⟨S19x512x512, .f32⟩
  | 28 => ⟨S19x512x512, .i1⟩
  | 29 => ⟨S19x512x512, .i1⟩
  | 30 => ⟨S1x512x1, .i32⟩
  | 31 => ⟨S_, .i32⟩
  | 32 => ⟨S1x512x1, .i32⟩
  | 33 => ⟨S1x512x1, .i1⟩
  | 34 => ⟨S_, .f32⟩
  | 35 => ⟨S_, .f32⟩
  | 36 => ⟨S1x512x1, .f32⟩
  | 37 => ⟨S1x512x1, .f32⟩
  | 38 => ⟨S1x512x1, .f32⟩
  | 39 => ⟨S_, .f32⟩
  | 40 => ⟨S19x512x512, .f32⟩
  | 41 => ⟨S19x512x512, .f32⟩
  | 42 => ⟨S19x512x512, .f32⟩
  | 43 => ⟨S19x512x512, .f32⟩
  | 44 => ⟨S19x512x512, .f32⟩
  | 45 => ⟨S19x512x512, .f32⟩
  | 46 => ⟨S19x512x512, .f32⟩
  | 47 => ⟨S19x512x512, .f32⟩
  | 48 => ⟨S19x512x512, .f32⟩
  | 49 => ⟨S19x512x512, .f32⟩
  | 50 => ⟨S19x512x512, .f32⟩
  | 51 => ⟨S19x512x512, .f32⟩
  | 52 => ⟨S19x512x512, .f32⟩
  | 53 => ⟨S19x512x512, .f32⟩
  | 54 => ⟨S19x512x512, .f32⟩
  | 55 => ⟨S19x512x512, .f32⟩
  | 56 => ⟨S19x512x512, .f32⟩
  | 57 => ⟨S19x512x512, .f32⟩
  | 58 => ⟨S19x512x512, .f32⟩
  | 59 => ⟨S_, .f32⟩
  | 60 => ⟨S19x512x512, .f32⟩
  | 61 => ⟨S19x512x512, .f32⟩
  | 62 => ⟨S19x512x512, .f32⟩
  | 63 => ⟨S19x512x1, .f32⟩
  | 64 => ⟨S1, .f32⟩
  | 65 => ⟨S_, .f32⟩
  | 66 => ⟨S19x512x1, .f32⟩
  | 67 => ⟨S19x512x1, .f32⟩
  | 68 => ⟨S19x1x512, .f32⟩
  | 69 => ⟨S1, .f32⟩
  | 70 => ⟨S_, .f32⟩
  | 71 => ⟨S19x1x512, .f32⟩
  | 72 => ⟨S19x1x512, .f32⟩
  | 73 => ⟨S19x512x512, .f32⟩
  | 74 => ⟨S19x512x512, .f32⟩
  | 75 => ⟨S19x512x512, .f32⟩
  | 76 => ⟨S19x512x512, .f32⟩
  | 77 => ⟨S19x512x512, .f32⟩
  | 78 => ⟨S19x512x512, .f32⟩
  | 79 => ⟨S19x512x512, .f32⟩
  | 80 => ⟨S19x512x512, .f32⟩
  | 81 => ⟨S512, .i32⟩
  | 82 => ⟨S512, .i32⟩
  | 83 => ⟨S512, .i32⟩
  | 84 => ⟨S1x256, .i32⟩
  | 85 => ⟨S512x1, .i32⟩
  | 86 => ⟨S512x256, .i32⟩
  | 87 => ⟨S512x256, .i32⟩
  | 88 => ⟨S512x256, .i1⟩
  | 89 => ⟨S_, .i1⟩
  | 90 => ⟨S512, .i1⟩
  | 91 => ⟨S512, .f32⟩
  | 92 => ⟨S1x512x1, .f32⟩
  | 93 => ⟨S19x512x512, .f32⟩
  | 94 => ⟨S19x512x512, .f32⟩
  | 95 => ⟨S512x512, .i32⟩
  | 96 => ⟨S512x512, .i32⟩
  | 97 => ⟨S_, .i32⟩
  | 98 => ⟨S512x512, .i32⟩
  | 99 => ⟨S512x512, .i32⟩
  | 100 => ⟨S512x512, .i1⟩
  | 101 => ⟨S512x512, .f32⟩
  | 102 => ⟨S_, .f32⟩
  | 103 => ⟨S512x512, .f32⟩
  | 104 => ⟨S512x512, .f32⟩
  | 105 => ⟨S1x512x512, .f32⟩
  | 106 => ⟨S19x512x512, .f32⟩
  | 107 => ⟨S19x512x512, .f32⟩
  | _ => ⟨S512x2x20, .f32⟩

abbrev hbmTy (i : Nat) : BufTy := match i / 128 with
  | 0 => hbmTy0_0 i
  | 1 => hbmTy0_1 i
  | _ => ⟨S512x2x20, .f32⟩

abbrev bufTy : (tb : Table) → Fin (tcTables nBuf tb) → BufTy
  | .hbm, ⟨i, _⟩ => hbmTy i
  | _, _ => ⟨S512x2x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_4 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_5 : Ref sig .tc := ⟨.hbm, 146, rfl⟩
abbrev main_cst_6 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_c : Ref sig .tc := ⟨.hbm, 159, rfl⟩
abbrev main_v130 : Ref sig .tc := ⟨.hbm, 160, rfl⟩
abbrev main_v131 : Ref sig .tc := ⟨.hbm, 161, rfl⟩
abbrev main_cst_7 : Ref sig .tc := ⟨.hbm, 162, rfl⟩
abbrev main_cst_8 : Ref sig .tc := ⟨.hbm, 163, rfl⟩
abbrev main_call0_v0 : Ref sig .tc := ⟨.hbm, 164, rfl⟩
abbrev main_call0_v1 : Ref sig .tc := ⟨.hbm, 165, rfl⟩
abbrev main_v132 : Ref sig .tc := ⟨.hbm, 166, rfl⟩
abbrev main_cst_9 : Ref sig .tc := ⟨.hbm, 167, rfl⟩
abbrev main_call1_v0 : Ref sig .tc := ⟨.hbm, 168, rfl⟩
abbrev main_call1_v1 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_10 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_c_11 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_c_12 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_cst_13 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩

abbrev nD : Nat := 1
abbrev τ : Topo := Topo.v7x

variable {F : FTy → Type} [FloatOps F]
-- ==== Proof.Strip.lean ====
/- One strip of the kernel's tile: eight rows against all 512 columns, as one function of the tile's rows and
   columns, and the pieces that the body stores as the sixty-four strips. -/
module

public import proofs.«01_k».proof.Proof.Gen.KernelIdeal.Value
public import Idealize.ShloMosaic.Lib.Pointwise

@[expose] public section

noncomputable section

namespace Cert.Risk

open Cert.KernelIdeal Cert.KernelIdeal.Gen Idealize.ShloMosaic Idealize.ShloMosaic.TcCoe Idealize.SL.Sem

variable {F : FTy → Type} [FloatOps F]

/-- The rows of a tile that every strip is computed against, each beside the same values laid out as a column where
    the strip takes its own rows from one. -/
structure Lines (F : FTy → Type) where
  x : FVec F S1x512 .f32
  y : FVec F S1x512 .f32
  wx : FVec F S1x512 .f32
  wy : FVec F S1x512 .f32
  node : FVec F S1x512 .f32
  cx : FVec F S512x1 .f32
  cy : FVec F S512x1 .f32
  cwx : FVec F S512x1 .f32
  cwy : FVec F S512x1 .f32
  cux : FVec F S512x1 .f32
  cuy : FVec F S512x1 .f32
  scale : FVec F S512x1 .f32
  shift : FVec F S512x1 .f32

section
variable (L : Lines F) (o : ℕ) (h : S512x1.Slices ![o, 0] S8x1)

/-- Eight entries of a column from entry `o`, spread over the lanes. -/
def spread (v : FVec F S512x1 .f32) : FVec F S8x512 .f32 :=
  broadcastTo S8x512 (extractStridedSlice S8x1 ![o, 0] v h) broadcasts_S8x1_S8x512

/-- A row over eight sublanes. -/
def over (v : FVec F S1x512 .f32) : FVec F S8x512 .f32 := broadcastTo S8x512 v broadcasts_S1x512_S8x512

def zeros : FVec F S8x512 .f32 := broadcast S8x512 (Scalar.ofBits .f32 0x00000000#32)

/-- The difference in `x`, lane minus row. -/
def gapX : FVec F S8x512 .f32 := subf (over L.x) (spread o h L.cx)
/-- The difference in `y`, lane minus row. -/
def gapY : FVec F S8x512 .f32 := subf (over L.y) (spread o h L.cy)

/-- The relative velocity along the difference over the guarded squared distance. -/
def approach : FVec F S8x512 .f32 :=
  divf (absf (addf (mulf (subf (spread o h L.cwx) (over L.wx)) (gapX L o h))
      (mulf (subf (spread o h L.cwy) (over L.wy)) (gapY L o h))))
    (addf (addf (mulf (gapX L o h) (gapX L o h)) (mulf (gapY L o h) (gapY L o h)))
      (broadcast S8x512 (Scalar.ofBits .f32 0x2B8CBCCC#32)))

/-- The sign test `p` of a column's eight entries, spread over the lanes. -/
def spreadSign (p : CmpFPredicate) (v : FVec F S512x1 .f32) : IVec S8x512 1 :=
  broadcastTo S8x512 (cmpf p (extractStridedSlice S8x1 ![o, 0] v h) (broadcast S8x1 (Scalar.ofBits .f32 0x00000000#32)))
    broadcasts_S8x1_S8x512

/-- The lane lies in front of the row. -/
def inFront : IVec S8x512 1 :=
  andi (cmpf .ogt (addf (mulf (gapX L o h) (spread o h L.cux)) (mulf (gapY L o h) (spread o h L.cuy))) zeros)
    (xori (andi (andi (cmpf .olt (gapX L o h) zeros) (spreadSign o h .olt L.cux))
        (xori (cmpf .oge (gapY L o h) zeros) (spreadSign o h .oge L.cuy)))
      (constantI S8x512 1 1#1))

/-- The strip from row `o`. -/
def strip : FVec F S1x8x512 .f32 :=
  shapeCast S1x8x512
    (select (inFront L o h)
      (mulf (approach L o h) (addf (mulf (over L.node) (spread o h L.scale)) (spread o h L.shift))) zeros)
    shapeCasts_S8x512_S1x8x512

end

theorem slices_strip (k : Fin 64) : S512x1.Slices ![8 * k.val, 0] S8x1 := by revert k; decide

theorem inb_strip (k : Fin 64) : ∀ a, (![0, 8 * k.val, 0] : Fin 3 → Nat) a + S1x8x512.size a ≤ S1x512x512.size a := by
  revert k; decide

/-- The piece of strip `k`. -/
def stripPiece (L : Lines F) (k : Fin 64) : View.Piece (Elt F) S1x512x512 .f32 :=
  ⟨Rect.unit ![0, 8 * k.val, 0] S1x8x512.size (inb_strip k), strip L (8 * k.val) (slices_strip k)⟩

/-- The strips before strip `n`, the last one first. -/
def stripsTo (L : Lines F) : (n : ℕ) → n ≤ 64 → List (View.Piece (Elt F) S1x512x512 .f32)
  | 0, _ => []
  | n + 1, h => stripPiece L ⟨n, h⟩ :: stripsTo L n (by omega)

/-- The lines of a tile, from the four rows of positions, the column of factors and the twelve scalars. -/
def linesOf (x xp y yp : Vec F S1x1x512 .f32) (fac : Vec F S512x1 .f32) (w : Fin 12 → F .f32) : Lines F :=
  let v := k0_pay8 x xp y yp
  let ux := k0_pay11 x xp y yp
  let uy := k0_pay14 (k0_pay9 x xp y yp) (k0_pay12 x xp y yp) k0_pay13
  let wx := k0_pay15 v ux
  let wy := mulf v uy
  let angle := k0_pay17 (k0_pay5 x xp) (k0_pay6 y yp)
  let km := k0_pay21 (k0_pay2 x) (k0_pay3 y) (k0_pay5 x xp) (k0_pay6 y yp) v (w 4) (w 5) (w 6) (w 7)
  let own := k0_pay22 (k0_pay2 x) (k0_pay3 y) v (w 0) (w 1) (w 2)
  let m := k0_pay20 (k0_pay2 x) (k0_pay3 y)
  { x := k0_pay2 x, y := k0_pay3 y, wx := wx, wy := wy, node := k0_pay23 angle m km own (w 3) (w 8),
    cx := k0_pay24 (k0_pay2 x), cy := k0_pay25 (k0_pay3 y), cwx := k0_pay26 wx, cwy := k0_pay27 wy,
    cux := k0_pay28 ux, cuy := k0_pay29 uy,
    scale := k0_pay30 (k0_pay4 fac) (w 10), shift := k0_pay31 (k0_pay4 fac) angle m km own (w 3) (w 8) (w 9) (w 11) }

section
variable (c : Dev nD) (i : grid0.Coords) (arg1 : Memref sig .tc .smem S12 .f32) (harg1 : arg1.IsWhole) (arg2 : Memref sig .tc .vmem S1x1x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S512x1 .f32) (harg6 : arg6.IsWhole) (arg7 : Memref sig .tc .vmem S1x512x512 .f32) (harg7 : arg7.IsWhole)
    (x0 : Vec F S12 .f32) (x1 : Vec F S1x1x512 .f32) (x2 : Vec F S1x1x512 .f32) (x3 : Vec F S1x1x512 .f32) (x4 : Vec F S1x1x512 .f32) (x5 : Vec F S512x1 .f32)

theorem inb_word (k : Fin 12) : ∀ a, (![k.val] : Fin 1 → Nat) a + S1.size a ≤ S12.size a := by revert k; decide

/-- A staged row as the body loads it. -/
def loaded (m : Memref sig .tc .vmem S1x1x512 .f32) (hm : m.IsWhole) (X : Vec F S1x1x512 .f32) : Vec F S1x1x512 .f32 :=
  View.readAt (Elt F) m.view (Rect.unit ![0, 0, 0] S1x1x512.size inb_S1x1x512_S1x1x512_0_0_0).toLoadRect (hm.unread X)

/-- The tile's lines as the body loads them. -/
def loadedLines : Lines F :=
  linesOf (loaded arg2 harg2 x1) (loaded arg3 harg3 x2) (loaded arg4 harg4 x3) (loaded arg5 harg5 x4)
    (View.readAt (Elt F) arg6.view (Rect.unit ![0, 0] S512x1.size inb_S512x1_S512x1_0_0).toLoadRect (harg6.unread x5))
    (fun k => View.readAt (Elt F) arg1.view (Rect.unit (s := S12) ![k.val] S1.size (inb_word k)).toLoadRect (harg1.unread x0)
      (Shape.Idx.first (by show 0 < S1.numel; decide)))

/-- The body stores the strips, the last one first in the list. -/
theorem pieces_eq :
    (kernelRun0_A c i arg1 harg1 arg2 harg2 arg3 harg3 arg4 harg4 arg5 harg5 arg6 harg6 arg7 harg7 x0 x1 x2 x3 x4 x5).1
      = stripsTo (loadedLines arg1 harg1 arg2 harg2 arg3 harg3 arg4 harg4 arg5 harg5 arg6 harg6 x0 x1 x2 x3 x4 x5) 64 le_rfl := by
  unfold kernelRun0_A
  dsimp only
  repeat' refine congrArg₂ List.cons ?_ ?_
  all_goals
    try sl_unfold_words
    try dsimp only [stripPiece, strip, loadedLines, linesOf, inFront, approach, gapX, gapY, over, spread, spreadSign, zeros, loaded]
    try unfold_payloads
    rfl

end

end Cert.Risk
-- ==== Proof.Angle.lean ====
/- The plane geometry of the claim, over the reals: the angle of a vector, and what replaces it when the angle is not
   taken — its cosine and sine as the unit vector, and the comparison of two angles as the sign of an inner product. -/
module

public import Idealize.ShloMosaic.PureOps.Ideal

@[expose] public section

noncomputable section

namespace Cert.Risk

open Real

/-- The angle of the vector `(x, y)` in `(-π, π]`, zero at the origin. -/
def ang (y x : ℝ) : ℝ :=
  if 0 < x then arctan (y / x)
  else if x < 0 then (if 0 ≤ y then arctan (y / x) + π else arctan (y / x) - π)
  else if 0 < y then π / 2 else if y < 0 then -(π / 2) else 0

theorem sqrt_one_add_div {x y : ℝ} (hx : x ≠ 0) : √(x * x + y * y) = |x| * √(1 + (y / x) ^ 2) := by
  rw [← sqrt_sq_eq_abs, ← sqrt_mul (sq_nonneg x)]
  congr 1; field_simp

theorem len_cos_arctan {x y : ℝ} (hx : x ≠ 0) : √(x * x + y * y) * cos (arctan (y / x)) = |x| := by
  have h : 0 < √(1 + (y / x) ^ 2) := by positivity
  rw [sqrt_one_add_div hx, cos_arctan]; field_simp

theorem len_sin_arctan {x y : ℝ} (hx : x ≠ 0) : √(x * x + y * y) * sin (arctan (y / x)) = |x| * (y / x) := by
  have h : 0 < √(1 + (y / x) ^ 2) := by positivity
  rw [sqrt_one_add_div hx, sin_arctan]; field_simp

/-- The length times the angle's cosine is the first coordinate. -/
theorem len_cos_ang (y x : ℝ) : √(x * x + y * y) * cos (ang y x) = x := by
  unfold ang
  split_ifs with h1 h2 h3 h4 h5
  · rw [len_cos_arctan h1.ne', abs_of_pos h1]
  · rw [cos_add_pi, mul_neg, len_cos_arctan h2.ne, abs_of_neg h2, neg_neg]
  · rw [cos_sub_pi, mul_neg, len_cos_arctan h2.ne, abs_of_neg h2, neg_neg]
  · rw [cos_pi_div_two]; linarith
  · rw [cos_neg, cos_pi_div_two]; linarith
  · have hx : x = 0 := by linarith
    have hy : y = 0 := by linarith
    simp [hx, hy]

/-- The length times the angle's sine is the second coordinate. -/
theorem len_sin_ang (y x : ℝ) : √(x * x + y * y) * sin (ang y x) = y := by
  unfold ang
  split_ifs with h1 h2 h3 h4 h5
  · rw [len_sin_arctan h1.ne', abs_of_pos h1]; field_simp
  · rw [sin_add_pi, mul_neg, len_sin_arctan h2.ne, abs_of_neg h2]; field_simp [h2.ne]
  · rw [sin_sub_pi, mul_neg, len_sin_arctan h2.ne, abs_of_neg h2]; field_simp [h2.ne]
  · have hx : x = 0 := by linarith
    rw [sin_pi_div_two, hx, zero_mul, zero_add, sqrt_mul_self h4.le, mul_one]
  · have hx : x = 0 := by linarith
    rw [sin_neg, sin_pi_div_two, hx, zero_mul, zero_add, sqrt_mul_self_eq_abs, abs_of_neg h5]; ring
  · have hx : x = 0 := by linarith
    have hy : y = 0 := by linarith
    simp [hx, hy]

theorem ang_mem (y x : ℝ) : -π < ang y x ∧ ang y x ≤ π := by
  have hp := pi_pos
  have h1 := neg_pi_div_two_lt_arctan (y / x)
  have h2 := arctan_lt_pi_div_two (y / x)
  unfold ang
  split_ifs with a b c d e
  · constructor <;> linarith
  · have h : arctan (y / x) ≤ 0 := by
      rw [← arctan_zero]; exact arctan_strictMono.monotone (div_nonpos_of_nonneg_of_nonpos c b.le)
    constructor <;> linarith
  · have h : 0 < arctan (y / x) := by
      rw [← arctan_zero]; exact arctan_strictMono (div_pos_of_neg_of_neg (by linarith) b)
    constructor <;> linarith
  · constructor <;> linarith
  · constructor <;> linarith
  · constructor <;> linarith

/-- Of angles in `(-π, π]`, those past a quarter turn are those of the upper left, the axis with it. -/
theorem left_up_iff {a : ℝ} (h : -π < a ∧ a ≤ π) : (cos a < 0 ∧ 0 ≤ sin a) ↔ π / 2 < a := by
  have hp := pi_pos
  constructor
  · rintro ⟨hc, hs⟩
    by_contra hn
    have h1 : a < -(π / 2) := by
      by_contra h2
      exact absurd (cos_nonneg_of_neg_pi_div_two_le_of_le (by linarith) (by linarith)) (not_le.2 hc)
    have : sin a < 0 := sin_neg_of_neg_of_neg_pi_lt (by linarith) h.1
    linarith
  · intro ha
    exact ⟨cos_neg_of_pi_div_two_lt_of_lt ha (by linarith [h.2]), sin_nonneg_of_nonneg_of_le_pi (by linarith) h.2⟩

/-- Those before the negative quarter turn are those of the lower left, the axis without. -/
theorem left_down_iff {a : ℝ} (h : -π < a ∧ a ≤ π) : (cos a < 0 ∧ ¬ 0 ≤ sin a) ↔ a < -(π / 2) := by
  have hp := pi_pos
  constructor
  · rintro ⟨hc, hs⟩
    by_contra h2
    by_cases h3 : a ≤ π / 2
    · exact absurd (cos_nonneg_of_neg_pi_div_two_le_of_le (by linarith) h3) (not_le.2 hc)
    · exact hs (sin_nonneg_of_nonneg_of_le_pi (by linarith) h.2)
  · intro ha
    refine ⟨?_, not_le.2 (sin_neg_of_neg_of_neg_pi_lt (by linarith) h.1)⟩
    rw [← cos_neg]
    exact cos_neg_of_pi_div_two_lt_of_lt (by linarith) (by linarith [h.1])

/-- Two angles in `(-π, π]` are less than a quarter turn apart when the cosine of their difference is positive and they
    do not lie in the left half plane on different sides of the axis. -/
theorem near_iff {a b : ℝ} (ha : -π < a ∧ a ≤ π) (hb : -π < b ∧ b ≤ π) :
    (a - π / 2 < b ∧ b < a + π / 2) ↔
      (0 < cos (b - a) ∧ ¬ ((cos b < 0 ∧ cos a < 0) ∧ Xor (0 ≤ sin b) (0 ≤ sin a))) := by
  have hp := pi_pos
  have a1 := left_up_iff ha
  have a2 := left_down_iff ha
  have b1 := left_up_iff hb
  have b2 := left_down_iff hb
  have hx : ((cos b < 0 ∧ cos a < 0) ∧ Xor (0 ≤ sin b) (0 ≤ sin a)) ↔
      ((π / 2 < b ∧ a < -(π / 2)) ∨ (b < -(π / 2) ∧ π / 2 < a)) := by
    rw [← a1, ← a2, ← b1, ← b2]; simp only [Xor, Xor]; tauto
  rw [hx]
  constructor
  · rintro ⟨h1, h2⟩
    refine ⟨cos_pos_of_mem_Ioo ⟨by linarith, by linarith⟩, ?_⟩
    rintro (⟨h3, h4⟩ | ⟨h3, h4⟩) <;> linarith
  · rintro ⟨hc, hn⟩
    by_contra hk
    have hk' : b ≤ a - π / 2 ∨ a + π / 2 ≤ b := by
      by_contra h; push Not at h; exact hk ⟨h.1, h.2⟩
    rcases hk' with h | h
    · have h5 : -(π + π / 2) ≤ b - a → False := fun h6 => by
        have : cos (b - a) ≤ 0 := by
          rw [← cos_neg]
          exact cos_nonpos_of_pi_div_two_le_of_le (by linarith) (by linarith)
        linarith
      exact hn (Or.inr ⟨by by_contra h7; exact h5 (by linarith), by by_contra h7; exact h5 (by linarith)⟩)
    · have h5 : b - a ≤ π + π / 2 → False := fun h6 => by
        have : cos (b - a) ≤ 0 := cos_nonpos_of_pi_div_two_le_of_le (by linarith) h6
        linarith
      exact hn (Or.inl ⟨by by_contra h7; exact h5 (by linarith), by by_contra h7; exact h5 (by linarith)⟩)

/-- The same for a vector `(x, y)` that is not zero and an angle `a`, its angle not taken. -/
theorem front_iff {a x y : ℝ} (ha : -π < a ∧ a ≤ π) (hr : 0 < x * x + y * y) :
    (a - π / 2 < ang y x ∧ ang y x < a + π / 2) ↔
      (0 < x * cos a + y * sin a ∧ ¬ ((x < 0 ∧ cos a < 0) ∧ Xor (0 ≤ y) (0 ≤ sin a))) := by
  have hl : 0 < √(x * x + y * y) := sqrt_pos.2 hr
  have hc := len_cos_ang y x
  have hs := len_sin_ang y x
  have e1 : x * cos a + y * sin a = √(x * x + y * y) * cos (ang y x - a) := by
    rw [cos_sub]; linear_combination -cos a * hc - sin a * hs
  have e2 : x < 0 ↔ cos (ang y x) < 0 := by
    constructor
    · intro h; by_contra h2; nlinarith
    · intro h; nlinarith
  have e3 : 0 ≤ y ↔ 0 ≤ sin (ang y x) := by
    constructor
    · intro h; by_contra h2; nlinarith
    · intro h; nlinarith
  rw [near_iff ha (ang_mem y x), e1, e2, e3, mul_pos_iff_of_pos_left hl]

/-- Where there is nothing, nothing lies in front. -/
theorem inner_zero {a x y : ℝ} (hr : x * x + y * y = 0) : x = 0 ∧ y = 0 := by
  constructor <;> nlinarith [mul_self_nonneg x, mul_self_nonneg y]

/-- The unit vector along `(x, y)`, along the first axis at the origin, is the angle's cosine and sine. -/
theorem cos_ang_eq (y x : ℝ) : cos (ang y x) = if 0 < x * x + y * y then x * (√(x * x + y * y))⁻¹ else 1 := by
  split_ifs with h
  · have hl : 0 < √(x * x + y * y) := sqrt_pos.2 h
    have hc := len_cos_ang y x
    rw [← div_eq_mul_inv, eq_div_iff hl.ne']; linarith
  · have h0 := inner_zero (a := 0) (le_antisymm (not_lt.1 h) (add_nonneg (mul_self_nonneg x) (mul_self_nonneg y)))
    simp [ang, h0.1, h0.2]

theorem sin_ang_eq (y x : ℝ) : sin (ang y x) = if 0 < x * x + y * y then y * (√(x * x + y * y))⁻¹ else 0 := by
  split_ifs with h
  · have hl : 0 < √(x * x + y * y) := sqrt_pos.2 h
    have hc := len_sin_ang y x
    rw [← div_eq_mul_inv, eq_div_iff hl.ne']; linarith
  · have h0 := inner_zero (a := 0) (le_antisymm (not_lt.1 h) (add_nonneg (mul_self_nonneg x) (mul_self_nonneg y)))
    simp [ang, h0.1, h0.2]

/-- The speeds along a line, times its length: inner products with the line's vector. -/
theorem along (p q a b y x : ℝ) :
    abs (p * cos (abs (a - ang y x)) - q * cos (abs (b - ang y x))) * √(x * x + y * y)
      = abs ((p * cos a - q * cos b) * x + (p * sin a - q * sin b) * y) := by
  have hc := len_cos_ang y x
  have hs := len_sin_ang y x
  rw [cos_abs, cos_abs, ← abs_of_nonneg (sqrt_nonneg (x * x + y * y)), ← abs_mul,
    cos_sub, cos_sub]
  congr 1
  linear_combination (p * cos a - q * cos b) * hc + (p * sin a - q * sin b) * hs

end Cert.Risk
-- ==== Proof.Scene.lean ====
/- The risk over the real numbers at one time step: the reference's formula, the kernel's formula, and that they
   agree. -/
module

public import proofs.«01_k».proof.Proof.Angle

@[expose] public section

noncomputable section

namespace Cert.Risk

open Real

/-- The real number that the reference's guard `1e-12` is rounded to. -/
def eps : ℝ := 9223372 / 2 ^ 63

theorem eps_pos : 0 < eps := by unfold eps; norm_num

/-- The real numbers of one time step: the positions and the positions before, the weights `w k` and biases `b k` of
    the four features, the weights `c` and the bias `d` over the features, the weights `r0`, `r1` and the bias `s` over
    a pair, each pedestrian's factor and whether it takes part. -/
structure Scene where
  x : Fin 512 → ℝ
  y : Fin 512 → ℝ
  px : Fin 512 → ℝ
  py : Fin 512 → ℝ
  w : Fin 4 → Fin 2 → ℝ
  b : Fin 4 → ℝ
  c : Fin 4 → ℝ
  d : ℝ
  r0 : ℝ
  r1 : ℝ
  s : ℝ
  kind : Fin 512 → ℝ
  part : Fin 512 → ℝ

namespace Scene

variable (S : Scene) (i j n : Fin 512)

def dx : ℝ := S.x n - S.px n
def dy : ℝ := S.y n - S.py n
def step : ℝ := S.dx n * S.dx n + S.dy n * S.dy n
def speed : ℝ := √(S.step n + eps) / (1 / 2)
def turn : ℝ := ang (S.dy n) (S.dx n)

/-- The squared distance to the last pedestrian. -/
def last : ℝ := (S.x n - S.x 511) * (S.x n - S.x 511) + (S.y n - S.y 511) * (S.y n - S.y 511)

/-- Whether the last pedestrian is within 12. -/
def near : ℝ := if √(S.last n + eps) ≤ 12 then 1 else 0

/-- One feature through its weights. -/
def lin (k : Fin 4) (f : Fin 512 → ℝ) : ℝ := f n * S.w k 0 + S.near n * f 511 * S.w k 1 + S.b k

def node : ℝ :=
  S.lin n 0 S.x * S.c 0 + S.lin n 1 S.y * S.c 1 + S.lin n 2 S.speed * S.c 2 + S.lin n 3 S.turn * S.c 3 + S.d

def gx : ℝ := S.x j - S.x i
def gy : ℝ := S.y j - S.y i
def dist2 : ℝ := S.gx i j * S.gx i j + S.gy i j * S.gy i j
def sight : ℝ := ang (S.gy i j) (S.gx i j)

/-- The relative speed along the line of sight. -/
def closing : ℝ :=
  abs (S.speed i * cos (abs (S.turn i - S.sight i j)) - S.speed j * cos (abs (S.turn j - S.sight i j)))

/-- The reference's risk of the pair. -/
def risk : ℝ :=
  S.closing i j * √(S.dist2 i j) / (S.dist2 i j + eps) * (S.node i * S.r0 + S.node j * S.r1 + S.s)
    * (if S.turn i - π / 2 < S.sight i j ∧ S.sight i j < S.turn i + π / 2 then S.kind i else 0)
    * S.part i * (1 - if i = j then 1 else 0)

/-- The kernel's unit vector along the step. -/
def guard : ℝ := if 0 < S.step n then S.step n else 1
def inv : ℝ := (√(S.guard n))⁻¹ * (3 / 2 - 1 / 2 * S.guard n * (√(S.guard n))⁻¹ * (√(S.guard n))⁻¹)
def ux : ℝ := if 0 < S.step n then S.dx n * S.inv n else 1
def uy : ℝ := if 0 < S.step n then S.dy n * S.inv n else 0

def near' : ℝ := if S.last n + eps ≤ 144 then 1 else 0

/-- The twelve scalars that the kernel's host code prepares. -/
def word : Fin 12 → ℝ :=
  ![S.c 0 * S.w 0 0, S.c 1 * S.w 1 0, S.c 2 * S.w 2 0, S.c 3 * S.w 3 0,
    S.c 0 * S.w 0 1, S.c 1 * S.w 1 1, S.c 2 * S.w 2 1, S.c 3 * S.w 3 1,
    S.c 0 * S.b 0 + S.c 1 * S.b 1 + S.c 2 * S.b 2 + S.c 3 * S.b 3 + S.d, S.r0, S.r1, S.s]

/-- The kernel's node value: the weights are multiplied together first. -/
def node' : ℝ :=
  S.x n * (S.c 0 * S.w 0 0) + S.y n * (S.c 1 * S.w 1 0) + S.speed n * (S.c 2 * S.w 2 0) + S.turn n * (S.c 3 * S.w 3 0)
    + S.near' n * (S.x 511 * (S.c 0 * S.w 0 1) + S.y 511 * (S.c 1 * S.w 1 1) + S.speed 511 * (S.c 2 * S.w 2 1)
      + S.turn 511 * (S.c 3 * S.w 3 1))
    + (S.c 0 * S.b 0 + S.c 1 * S.b 1 + S.c 2 * S.b 2 + S.c 3 * S.b 3 + S.d)

def ahead : Prop :=
  0 < S.gx i j * S.ux i + S.gy i j * S.uy i
    ∧ ¬ ((S.gx i j < 0 ∧ S.ux i < 0) ∧ Xor (0 ≤ S.gy i j) (0 ≤ S.uy i))

/-- The kernel's risk of the pair. -/
def risk' : ℝ :=
  open Classical in
  if S.ahead i j then
    abs ((S.speed i * S.ux i - S.speed j * S.ux j) * S.gx i j + (S.speed i * S.uy i - S.speed j * S.uy j) * S.gy i j)
      / (S.dist2 i j + eps) * (S.node' j * (S.kind i * S.part i * S.r1) + (S.node' i * S.r0 + S.s) * (S.kind i * S.part i))
  else 0

theorem step_nonneg : 0 ≤ S.step n := add_nonneg (mul_self_nonneg _) (mul_self_nonneg _)
theorem dist2_nonneg : 0 ≤ S.dist2 i j := add_nonneg (mul_self_nonneg _) (mul_self_nonneg _)

/-- A Newton step from the exact inverse root stays there. -/
theorem inv_eq (h : 0 < S.step n) : S.inv n = (√(S.step n))⁻¹ := by
  have hp : 0 < √(S.step n) := sqrt_pos.2 h
  have hs : √(S.step n) * √(S.step n) = S.step n := mul_self_sqrt h.le
  unfold inv guard
  rw [if_pos h]
  have : 1 / 2 * S.step n * (√(S.step n))⁻¹ * (√(S.step n))⁻¹ = 1 / 2 := by
    rw [mul_assoc, mul_assoc, ← mul_inv, hs, mul_inv_cancel₀ h.ne', mul_one]
  rw [this]; ring

theorem ux_eq : S.ux n = cos (S.turn n) := by
  have e : cos (S.turn n) = if 0 < S.step n then S.dx n * (√(S.step n))⁻¹ else 1 := cos_ang_eq _ _
  rw [e]
  unfold ux
  split_ifs with h
  · rw [inv_eq S n h]
  · rfl

theorem uy_eq : S.uy n = sin (S.turn n) := by
  have e : sin (S.turn n) = if 0 < S.step n then S.dy n * (√(S.step n))⁻¹ else 0 := sin_ang_eq _ _
  rw [e]
  unfold uy
  split_ifs with h
  · rw [inv_eq S n h]
  · rfl

theorem near_eq : S.near' n = S.near n := by
  unfold near near'
  have h : (√(S.last n + eps) ≤ 12) ↔ S.last n + eps ≤ 144 := by
    rw [sqrt_le_left (by norm_num)]; norm_num
  simp only [h]

theorem node_eq : S.node' n = S.node n := by
  unfold node node' lin
  rw [near_eq]; ring

theorem risk_eq : S.risk' i j = S.risk i j := by
  unfold risk' risk
  rw [node_eq, node_eq]
  have hal : S.closing i j * √(S.dist2 i j)
      = abs ((S.speed i * S.ux i - S.speed j * S.ux j) * S.gx i j + (S.speed i * S.uy i - S.speed j * S.uy j) * S.gy i j) := by
    rw [ux_eq, ux_eq, uy_eq, uy_eq]; exact along _ _ _ _ _ _
  rw [hal]
  by_cases hr : S.dist2 i j = 0
  · obtain ⟨h1, h2⟩ := inner_zero (a := 0) hr
    have : ¬ S.ahead i j := by unfold ahead; rw [h1, h2]; simp
    rw [if_neg this, h1, h2]; simp
  · have hp : 0 < S.dist2 i j := lt_of_le_of_ne (S.dist2_nonneg i j) (Ne.symm hr)
    have hij : i ≠ j := by
      rintro rfl; apply hr; simp [dist2, gx, gy]
    have hf : (S.turn i - π / 2 < S.sight i j ∧ S.sight i j < S.turn i + π / 2) ↔ S.ahead i j := by
      unfold ahead
      rw [ux_eq, uy_eq]
      exact front_iff (ang_mem _ _) hp
    rw [if_neg hij]
    by_cases ha : S.ahead i j
    · rw [if_pos ha, if_pos (hf.2 ha)]; ring
    · rw [if_neg ha, if_neg (fun h => ha (hf.1 h))]; ring

end Scene

end Cert.Risk
-- ==== Proof.Reals.lean ====
/- The programs' float operations at real numbers, and the literals of both programs as real numbers. -/
module

public import proofs.«01_k».proof.Proof.Scene
public import Idealize.ShloMosaic.Lib.Pointwise

@[expose] public section

noncomputable section

namespace Cert.Risk

open Idealize.ShloMosaic

theorem eps_bits : Ideal.ofBits FTy.f32 730643660#32 = ((eps : ℝ) : EReal) := by
  simp [Ideal.ofBits, Ideal.ieee, eps, -EReal.coe_mul]; norm_num
theorem half_bits : Ideal.ofBits FTy.f32 1056964608#32 = ((1 / 2 : ℝ) : EReal) := by
  simp [Ideal.ofBits, Ideal.ieee, -EReal.coe_mul]; norm_num
theorem three_halves_bits : Ideal.ofBits FTy.f32 1069547520#32 = ((3 / 2 : ℝ) : EReal) := by
  simp [Ideal.ofBits, Ideal.ieee, -EReal.coe_mul]; norm_num
theorem twelve_bits : Ideal.ofBits FTy.f32 1094713344#32 = ((12 : ℝ) : EReal) := by
  simp [Ideal.ofBits, Ideal.ieee, -EReal.coe_mul]; norm_num
theorem gross_bits : Ideal.ofBits FTy.f32 1125122048#32 = ((144 : ℝ) : EReal) := by
  simp [Ideal.ofBits, Ideal.ieee, -EReal.coe_mul]; norm_num

/-- The factor of the fourth kind of pedestrian, as the literal `0.65` is rounded. -/
def slow : ℝ := 10905190 / 2 ^ 24

theorem slow_bits : Ideal.ofBits FTy.f32 1059481190#32 = ((slow : ℝ) : EReal) := by
  simp [Ideal.ofBits, Ideal.ieee, slow, -EReal.coe_mul]; norm_num

theorem div_real (a : ℝ) {b : ℝ} (h : b ≠ 0) : Ideal.div (a : EReal) (b : EReal) = ((a / b : ℝ) : EReal) := by
  rw [Ideal.div_coe h, ← EReal.coe_mul, mul_one_div]

theorem sqrt_real {a : ℝ} (h : 0 ≤ a) : Ideal.sqrt (a : EReal) = ((Real.sqrt a : ℝ) : EReal) := by
  rw [Ideal.sqrt_coe, if_neg (not_lt.2 h)]

theorem rsqrt_real {a : ℝ} (h : 0 < a) : Ideal.rsqrt (a : EReal) = (((Real.sqrt a)⁻¹ : ℝ) : EReal) := by
  rw [Ideal.rsqrt_coe, if_neg (not_lt.2 h.le), if_neg h.ne']

/-- The guarded length of a vector. -/
theorem len_real (a b : ℝ) : Ideal.sqrt ((a * a + b * b + eps : ℝ) : EReal) = ((Real.sqrt (a * a + b * b + eps) : ℝ) : EReal) :=
  sqrt_real (add_pos_of_nonneg_of_pos (add_nonneg (mul_self_nonneg _) (mul_self_nonneg _)) eps_pos).le

theorem div_half (a : ℝ) : Ideal.div (a : EReal) ((1 / 2 : ℝ) : EReal) = ((a / (1 / 2) : ℝ) : EReal) :=
  div_real a (by norm_num)

theorem div_guarded (a x y : ℝ) :
    Ideal.div (a : EReal) ((x * x + y * y + eps : ℝ) : EReal) = ((a / (x * x + y * y + eps) : ℝ) : EReal) :=
  div_real a (add_pos_of_nonneg_of_pos (add_nonneg (mul_self_nonneg _) (mul_self_nonneg _)) eps_pos).ne'

/-- The inverse root of a number that is replaced by one when it isn't positive. -/
theorem rsqrt_guarded (a : ℝ) [Decidable (0 < a)] :
    Ideal.rsqrt ((if 0 < a then a else 1 : ℝ) : EReal) = (((Real.sqrt (if 0 < a then a else 1))⁻¹ : ℝ) : EReal) :=
  rsqrt_real (by split_ifs with h <;> [exact h; exact one_pos])

theorem atan2_real (y x : ℝ) : Ideal.atan2 (y : EReal) (x : EReal) = ((ang y x : ℝ) : EReal) := rfl

theorem abs_real (a : ℝ) : FloatOps.absf (F := Ideal) (φ := .f32) ((a : EReal) : Ideal .f32) = ((abs a : ℝ) : EReal) := by
  show max (a : EReal) (-(a : EReal)) = _
  rw [← EReal.coe_neg, ← EReal.coe_strictMono.monotone.map_max]; rfl

theorem ite_real (p : Prop) [Decidable p] (a b : ℝ) :
    (if p then (a : EReal) else (b : EReal)) = ((if p then a else b : ℝ) : EReal) := by split_ifs <;> rfl

theorem select_real (p : Prop) [Decidable p] (a b : EReal) :
    Scalar.select (BitVec.ofBool (decide p)) a b = if p then a else b := by
  by_cases h : p <;> simp [Scalar.select, h]

theorem and_bits (p q : Prop) [Decidable p] [Decidable q] :
    IntOp.andi (BitVec.ofBool (decide p)) (BitVec.ofBool (decide q)) = BitVec.ofBool (decide (p ∧ q)) := by
  by_cases h : p <;> by_cases k : q <;> simp [IntOp.andi, h, k]

theorem xor_bits (p q : Prop) [Decidable p] [Decidable q] [Decidable (Xor p q)] :
    IntOp.xori (BitVec.ofBool (decide p)) (BitVec.ofBool (decide q)) = BitVec.ofBool (decide (Xor p q)) := by
  by_cases h : p <;> by_cases k : q <;> simp [IntOp.xori, Xor, h, k]

theorem not_bits (p : Prop) [Decidable p] :
    IntOp.xori (BitVec.ofBool (decide p)) 1#1 = BitVec.ofBool (decide (¬ p)) := by
  by_cases h : p <;> simp [IntOp.xori, h]

end Cert.Risk
-- ==== Proof.Lines.lean ====
/- The rows and columns of a tile over the real numbers, and a strip computed from them. -/
module

public import proofs.«01_k».proof.Proof.Strip
public import proofs.«01_k».proof.Proof.Reals

@[expose] public section

noncomputable section

namespace Cert.Risk

open Cert.KernelIdeal Cert.KernelIdeal.Gen Idealize.ShloMosaic Idealize.ShloMosaic.TcCoe Idealize.SL.Sem

/-- The lines hold the numbers of the scene. -/
structure Lines.Holds (L : Lines Ideal) (S : Scene) : Prop where
  x : ∀ n, L.x (ix2 0 n) = ((S.x n : ℝ) : EReal)
  y : ∀ n, L.y (ix2 0 n) = ((S.y n : ℝ) : EReal)
  wx : ∀ n, L.wx (ix2 0 n) = ((S.speed n * S.ux n : ℝ) : EReal)
  wy : ∀ n, L.wy (ix2 0 n) = ((S.speed n * S.uy n : ℝ) : EReal)
  node : ∀ n, L.node (ix2 0 n) = ((S.node' n : ℝ) : EReal)
  cx : ∀ n, L.cx (ix2 n 0) = ((S.x n : ℝ) : EReal)
  cy : ∀ n, L.cy (ix2 n 0) = ((S.y n : ℝ) : EReal)
  cwx : ∀ n, L.cwx (ix2 n 0) = ((S.speed n * S.ux n : ℝ) : EReal)
  cwy : ∀ n, L.cwy (ix2 n 0) = ((S.speed n * S.uy n : ℝ) : EReal)
  cux : ∀ n, L.cux (ix2 n 0) = ((S.ux n : ℝ) : EReal)
  cuy : ∀ n, L.cuy (ix2 n 0) = ((S.uy n : ℝ) : EReal)
  scale : ∀ n, L.scale (ix2 n 0) = ((S.kind n * S.part n * S.r1 : ℝ) : EReal)
  shift : ∀ n, L.shift (ix2 n 0) = (((S.node' n * S.r0 + S.s) * (S.kind n * S.part n) : ℝ) : EReal)

/-- A strip's element is the kernel's risk of its row and lane. -/
theorem strip_apply {L : Lines Ideal} {S : Scene} (h : L.Holds S) (k : Fin 64) (r : Fin 8) (j : Fin 512) :
    strip L (8 * k.val) (slices_strip k) (ix3 0 r j) = ((S.risk' ⟨8 * k.val + r.val, by omega⟩ j : ℝ) : EReal) := by
  unfold strip inFront approach gapX gapY over spread spreadSign zeros
  pointwise
  simp only [h.x, h.y, h.wx, h.wy, h.node, h.cx, h.cy, h.cwx, h.cwy, h.cux, h.cuy, h.scale, h.shift, eps_bits]
  simp only [← EReal.coe_zero, ← EReal.coe_add, ← EReal.coe_mul, ← EReal.coe_sub, EReal.coe_lt_coe_iff, EReal.coe_le_coe_iff]
  classical
  rw [abs_real, div_guarded]
  simp only [and_bits, xor_bits, not_bits, select_real, ← EReal.coe_mul, ← EReal.coe_add, ite_real]
  exact congrArg _ (if_congr Iff.rfl rfl rfl)

theorem linesOf_holds (S : Scene) (x xp y yp : Vec Ideal S1x1x512 .f32) (fac : Vec Ideal S512x1 .f32) (w : Fin 12 → Ideal .f32)
    (hx : ∀ n, x (ix3 0 0 n) = ((S.x n : ℝ) : EReal)) (hxp : ∀ n, xp (ix3 0 0 n) = ((S.px n : ℝ) : EReal))
    (hy : ∀ n, y (ix3 0 0 n) = ((S.y n : ℝ) : EReal)) (hyp : ∀ n, yp (ix3 0 0 n) = ((S.py n : ℝ) : EReal))
    (hf : ∀ n, fac (ix2 n 0) = ((S.kind n * S.part n : ℝ) : EReal))
    (hw : ∀ k, w k = ((S.word k : ℝ) : EReal)) :
    (linesOf x xp y yp fac w).Holds S := by
  refine ⟨fun n => ?_, fun n => ?_, fun n => ?_, fun n => ?_, fun n => ?_, fun n => ?_, fun n => ?_, fun n => ?_,
    fun n => ?_, fun n => ?_, fun n => ?_, fun n => ?_, fun n => ?_⟩
  all_goals
    unfold linesOf
    dsimp only
    unfold_payloads
    pointwise
    simp only [hx, hxp, hy, hyp, hf, hw, eps_bits, half_bits, three_halves_bits, gross_bits]
    try simp only [← EReal.coe_zero, ← EReal.coe_one, ← EReal.coe_add, ← EReal.coe_mul, ← EReal.coe_sub,
      EReal.coe_lt_coe_iff, EReal.coe_le_coe_iff, ite_real, atan2_real, len_real, div_half, rsqrt_guarded]
    try rfl

end Cert.Risk
-- ==== Proof.Tile.lean ====
/- What the body leaves in the staged tile: the kernel's risk of every pair, when the staged blocks hold the numbers of
   a scene. -/
module

public import proofs.«01_k».proof.Proof.Lines
public import Idealize.ShloMosaic.Lib.WholeRead

@[expose] public section

noncomputable section

namespace Cert.Risk

open Cert.KernelIdeal Cert.KernelIdeal.Gen Idealize.ShloMosaic Idealize.ShloMosaic.TcCoe Idealize.SL.Sem

/-- The staged blocks hold the numbers of the scene. -/
structure Staged (S : Scene) (x0 : Vec Ideal S12 .f32) (x1 x2 x3 x4 : Vec Ideal S1x1x512 .f32) (x5 : Vec Ideal S512x1 .f32) :
    Prop where
  word : ∀ k : Fin 12, x0 (ix1 k) = ((S.word k : ℝ) : EReal)
  x : ∀ n, x1 (ix3 0 0 n) = ((S.x n : ℝ) : EReal)
  px : ∀ n, x2 (ix3 0 0 n) = ((S.px n : ℝ) : EReal)
  y : ∀ n, x3 (ix3 0 0 n) = ((S.y n : ℝ) : EReal)
  py : ∀ n, x4 (ix3 0 0 n) = ((S.py n : ℝ) : EReal)
  fac : ∀ n, x5 (ix2 n 0) = ((S.kind n * S.part n : ℝ) : EReal)

theorem loaded_apply (m : Memref sig .tc .vmem S1x1x512 .f32) (hm : m.IsWhole) (X : Vec Ideal S1x1x512 .f32) (n : Fin 512) :
    loaded m hm X (ix3 0 0 n) = X (ix3 0 0 n) := by
  unfold loaded
  rw [hm.readAt_unread]
  congr 1
  funext a; fin_cases a <;> apply Fin.ext <;> simp [LoadRect.idx, Rect.toLoadRect]

theorem mem_stripsTo {F : FTy → Type} [FloatOps F] (L : Lines F) : ∀ (n : ℕ) (h : n ≤ 64), ∀ p ∈ stripsTo L n h, ∃ k, p = stripPiece L k
  | 0, _, _, hp => absurd hp List.not_mem_nil
  | n + 1, h, p, hp => by
    rcases List.mem_cons.1 hp with e | hp
    · exact ⟨_, e⟩
    · exact mem_stripsTo L n _ p hp

variable (c : Dev nD) (i : grid0.Coords) (arg1 : Memref sig .tc .smem S12 .f32) (harg1 : arg1.IsWhole)
  (arg2 : Memref sig .tc .vmem S1x1x512 .f32) (harg2 : arg2.IsWhole) (arg3 : Memref sig .tc .vmem S1x1x512 .f32) (harg3 : arg3.IsWhole)
  (arg4 : Memref sig .tc .vmem S1x1x512 .f32) (harg4 : arg4.IsWhole) (arg5 : Memref sig .tc .vmem S1x1x512 .f32) (harg5 : arg5.IsWhole)
  (arg6 : Memref sig .tc .vmem S512x1 .f32) (harg6 : arg6.IsWhole) (arg7 : Memref sig .tc .vmem S1x512x512 .f32) (harg7 : arg7.IsWhole)
  {x0 : Vec Ideal S12 .f32} {x1 x2 x3 x4 : Vec Ideal S1x1x512 .f32} {x5 : Vec Ideal S512x1 .f32} {S : Scene}

theorem loadedLines_holds (h : Staged S x0 x1 x2 x3 x4 x5) :
    (loadedLines arg1 harg1 arg2 harg2 arg3 harg3 arg4 harg4 arg5 harg5 arg6 harg6 x0 x1 x2 x3 x4 x5).Holds S := by
  refine linesOf_holds S _ _ _ _ _ _ (fun n => ?_) (fun n => ?_) (fun n => ?_) (fun n => ?_) (fun n => ?_) (fun k => ?_)
  · rw [loaded_apply, h.x]
  · rw [loaded_apply, h.px]
  · rw [loaded_apply, h.y]
  · rw [loaded_apply, h.py]
  · rw [harg6.readAt_unread, ← h.fac]
    congr 1
    funext a; fin_cases a <;> apply Fin.ext <;> simp [LoadRect.idx, Rect.toLoadRect]
  · rw [harg1.readAt_unread, ← h.word]
    congr 1
    funext a; fin_cases a; apply Fin.ext; simp [LoadRect.idx, Rect.toLoadRect, Shape.Idx.first]

/-- The tile's element is the kernel's risk of the pair. -/
theorem tile_apply (h : Staged S x0 x1 x2 x3 x4 x5) (a b : Fin 512) :
    out0_A_6 c i arg1 harg1 arg2 harg2 arg3 harg3 arg4 harg4 arg5 harg5 arg6 harg6 arg7 harg7 x0 x1 x2 x3 x4 x5 (ix3 0 a b)
      = ((S.risk' a b : ℝ) : EReal) := by
  have hc := cover0_A_6 c i arg1 harg1 arg2 harg2 arg3 harg3 arg4 harg4 arg5 harg5 arg6 harg6 arg7 harg7 x0 x1 x2 x3 x4 x5 (ix3 0 a b)
  have hL := loadedLines_holds arg1 harg1 arg2 harg2 arg3 harg3 arg4 harg4 arg5 harg5 arg6 harg6 h
  unfold out0_A_6
  rw [pieces_eq] at hc ⊢
  refine View.read_writes_apply_of_pieces _ _ (fun y : S1x512x512.Idx => ((S.risk' (y 1) (y 2) : ℝ) : EReal)) _ ?_ _ hc
  intro p hp x
  obtain ⟨k, rfl⟩ := mem_stripsTo _ _ _ p hp
  have hx : x = ix3 (0 : Fin 1) (x 1 : Fin 8) (x 2 : Fin 512) := by
    funext a; fin_cases a
    · exact Subsingleton.elim (α := Fin 1) _ _
    · rfl
    · rfl
  rw [hx]
  refine (strip_apply hL k _ _).trans ?_
  congr 2 <;> apply Fin.ext
  · show 8 * k.val + (x 1).val = 8 * k.val + 1 * (x 1).val
    rw [one_mul]
  · show (x 2).val = 0 + 1 * (x 2).val
    rw [one_mul, zero_add]

end Cert.Risk
-- ==== Proof.Args.lean ====
/- The launch arguments as real numbers, and the scene of each time step. -/
module

public import proofs.«01_k».proof.Proof.Reals
public import proofs.«01_k».proof.Proof.Gen.KernelIdeal.Value

@[expose] public section

noncomputable section

namespace Cert.Risk

open Cert.KernelIdeal Cert.KernelIdeal.Gen Idealize.ShloMosaic Idealize.ShloMosaic.TcCoe Idealize.SL.Sem

/-- The numbers of a launch: the positions, the weights and biases as in `Scene`, each pedestrian's kind, and whether it is listed. -/
structure Args where
  pos : Fin 512 → Fin 2 → Fin 20 → ℝ
  w : Fin 4 → Fin 2 → ℝ
  b : Fin 4 → ℝ
  c : Fin 4 → ℝ
  d : ℝ
  r0 : ℝ
  r1 : ℝ
  s : ℝ
  kind : Fin 512 → BitVec 32
  bit : Fin 512 → BitVec 1

/-- The scene of time step `t`. -/
def Args.scene (A : Args) (t : Fin 19) : Scene where
  x n := A.pos n 0 t.succ
  y n := A.pos n 1 t.succ
  px n := A.pos n 0 t.castSucc
  py n := A.pos n 1 t.castSucc
  w := A.w
  b := A.b
  c := A.c
  d := A.d
  r0 := A.r0
  r1 := A.r1
  s := A.s
  kind n := if A.kind n = 4#32 then slow else 1
  part n := if A.bit n = 1#1 then 1 else 0

/-- One bit for each pedestrian: whether its number, counted from `start`, is among the listed ones. -/
def listed (peds : IVec S256 32) (start : IVec S_ 32) : IVec S512 1 :=
  Host.reduce IntOp.ori
    (cmpi .eq (broadcastInDim S512x256 ![0, 1] bcast_S1x256_S512x256_0_1 (broadcastInDim S1x256 ![1] bcast_S256_S1x256_1 peds))
      (broadcastInDim S512x256 ![0, 1] bcast_S512x1_S512x256_0_1 (broadcastInDim S512x1 ![0] bcast_S512_S512x1_0
        (addi (iotaInDim S512 32 0) (broadcastInDim S512 ![] bcast_S_S512 start)))))
    (constantI S_ 1 0#1) reducesTo_S512x256_S512_d1 h_S_

/-- The argument arrays hold the numbers. -/
structure Holds (A : Args) (a : FVec Ideal S512x2x20 .f32) (start : IVec S_ 32) (peds : IVec S256 32) (kinds : IVec S512 32)
    (W1 : FVec Ideal S2 .f32) (b1 : FVec Ideal S_ .f32) (W2 : FVec Ideal S2 .f32) (b2 : FVec Ideal S_ .f32)
    (W3 : FVec Ideal S2 .f32) (b3 : FVec Ideal S_ .f32) (W4 : FVec Ideal S2 .f32) (b4 : FVec Ideal S_ .f32)
    (W5 : FVec Ideal S4 .f32) (b5 : FVec Ideal S_ .f32) (Wr : FVec Ideal S2 .f32) (br : FVec Ideal S_ .f32) : Prop where
  pos : ∀ n k t, a (ix3 n k t) = ((A.pos n k t : ℝ) : EReal)
  W1 : ∀ k, W1 (ix1 k) = ((A.w 0 k : ℝ) : EReal)
  W2 : ∀ k, W2 (ix1 k) = ((A.w 1 k : ℝ) : EReal)
  W3 : ∀ k, W3 (ix1 k) = ((A.w 2 k : ℝ) : EReal)
  W4 : ∀ k, W4 (ix1 k) = ((A.w 3 k : ℝ) : EReal)
  b1 : ∀ i, b1 i = ((A.b 0 : ℝ) : EReal)
  b2 : ∀ i, b2 i = ((A.b 1 : ℝ) : EReal)
  b3 : ∀ i, b3 i = ((A.b 2 : ℝ) : EReal)
  b4 : ∀ i, b4 i = ((A.b 3 : ℝ) : EReal)
  W5 : ∀ k, W5 (ix1 k) = ((A.c k : ℝ) : EReal)
  b5 : ∀ i, b5 i = ((A.d : ℝ) : EReal)
  Wr0 : Wr (ix1 0) = ((A.r0 : ℝ) : EReal)
  Wr1 : Wr (ix1 1) = ((A.r1 : ℝ) : EReal)
  br : ∀ i, br i = ((A.s : ℝ) : EReal)
  kind : ∀ n, kinds (ix1 n) = A.kind n
  bit : ∀ n, listed peds start (ix1 n) = A.bit n

end Cert.Risk
-- ==== Proof.Host.lean ====
/- The arrays that the kernel's host code prepares, element by element. -/
module

public import proofs.«01_k».proof.Proof.Tile
public import proofs.«01_k».proof.Proof.Args

@[expose] public section

noncomputable section

namespace Cert.Risk

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The memory's argument arrays hold the numbers. -/
abbrev HoldsAt (A : Args) : Prop :=
  Holds A (m (c, Proc.devRef .tc main_arg0)) (m (c, Proc.devRef .tc main_arg1)) (m (c, Proc.devRef .tc main_arg5))
    (m (c, Proc.devRef .tc main_arg6)) (m (c, Proc.devRef .tc main_arg7)) (m (c, Proc.devRef .tc main_arg8))
    (m (c, Proc.devRef .tc main_arg9)) (m (c, Proc.devRef .tc main_arg10)) (m (c, Proc.devRef .tc main_arg11))
    (m (c, Proc.devRef .tc main_arg12)) (m (c, Proc.devRef .tc main_arg13)) (m (c, Proc.devRef .tc main_arg14))
    (m (c, Proc.devRef .tc main_arg15)) (m (c, Proc.devRef .tc main_arg16)) (m (c, Proc.devRef .tc main_arg19))
    (m (c, Proc.devRef .tc main_arg20))

/-- The contents after the host operations before the scalars are stacked. -/
def early : Valuation τ sig (Elt Ideal) := after ((hostOps0 (F := Ideal)).take 75) (fun b => m (c, b))

theorem words_late : V m c main_v75 = concatenate S12 0 [⟨S1, early m c main_v63⟩, ⟨S1, early m c main_v64⟩,
    ⟨S1, early m c main_v65⟩, ⟨S1, early m c main_v66⟩, ⟨S1, early m c main_v67⟩, ⟨S1, early m c main_v68⟩,
    ⟨S1, early m c main_v69⟩, ⟨S1, early m c main_v70⟩, ⟨S1, early m c main_v71⟩, ⟨S1, early m c main_v72⟩,
    ⟨S1, early m c main_v73⟩, ⟨S1, early m c main_v74⟩]
      concatenates_S1_S1_S1_S1_S1_S1_S1_S1_S1_S1_S1_S1_S12_d0 := by
  show after (List.flatten [hostOps0, hostOps0_1, hostOps0_2, hostOps0_3, hostOps0_4]) _ _ = _
  rw [← List.take_append_drop 75 (List.flatten _), after_append]
  have e : List.take 75 (List.flatten [hostOps0 (F := Ideal), hostOps0_1, hostOps0_2, hostOps0_3, hostOps0_4]) = hostOps0.take 75 := rfl
  rw [e]
  show after _ (early m c) _ = _
  generalize early m c = X
  simp only [hostOps0, hostOps0_1, hostOps0_2, hostOps0_3, hostOps0_4, List.flatten_cons, List.flatten_nil, List.append_nil,
    List.cons_append, List.nil_append, List.drop_succ_cons, List.drop_zero]
  after_results_simp
  rfl

variable {m c} {A : Args}

set_option maxHeartbeats 1000000 in
/-- The twelve scalars, over the real numbers. -/
theorem words_apply (h : HoldsAt m c A) (t : Fin 19) (k : Fin 12) : V m c main_v75 (ix1 k) = (((A.scene t).word k : ℝ) : EReal) := by
  rw [words_late]
  fin_cases k
  all_goals
    pointwise
    simp only [early, hostOps0, List.take_succ_cons, List.take_zero]
    after_results_simp
    pointwise
    simp only [h.W1, h.W2, h.W3, h.W4, h.W5, h.b1, h.b2, h.b3, h.b4, h.b5, h.Wr0, h.Wr1, h.br, ← EReal.coe_mul, ← EReal.coe_add]
    try rfl

/-- The staged positions: forty rows, the twenty times of the first coordinate before those of the second. -/
theorem att_apply (h : HoldsAt m c A) (q : Fin 2) (t : Fin 20) (n : Fin 512) :
    V m c main_v2 (ix3 (⟨20 * q.val + t.val, by omega⟩ : Fin 40) 0 n) = ((A.pos n q t : ℝ) : EReal) := by
  unfold V
  simp only [hostOps0, hostOps0_1, hostOps0_2, hostOps0_3, hostOps0_4, List.flatten_cons, List.flatten_nil, List.append_nil,
    List.cons_append, List.nil_append]
  after_results_simp
  pointwise
  rw [← h.pos n q t]
  congr 2 <;> apply Fin.ext <;> dsimp only <;> omega

end Cert.Risk
-- ==== Proof.Factor.lean ====
/- The column of factors that the kernel's host code prepares. -/
module

public import proofs.«01_k».proof.Proof.Host

@[expose] public section

noncomputable section

namespace Cert.Risk

open Cert.KernelIdeal Cert.KernelIdeal.Gen Idealize.ShloMosaic Idealize.ShloMosaic.TcCoe Idealize.SL.Sem
open Idealize.ShloMosaic.StableHlo

variable {m : (ℓ : Loc nD τ sig) → Buf (Elt Ideal) ℓ} {c : Dev nD} {A : Args}

/-- The column of factors. -/
theorem fac_apply (h : HoldsAt m c A) (t : Fin 19) (n : Fin 512) :
    V m c main_v90 (ix2 n 0) = (((A.scene t).kind n * (A.scene t).part n : ℝ) : EReal) := by
  have e : V m c main_v90 = shapeCast S512x1 (select (listed (m (c, Proc.devRef .tc main_arg5)) (m (c, Proc.devRef .tc main_arg1)))
      (select (cmpi .eq (m (c, Proc.devRef .tc main_arg6)) (broadcastInDim S512 ![] bcast_S_S512 (constantI S_ 32 4#32)))
        (broadcastInDim S512 ![] bcast_S_S512 (constant (F := Ideal) S_ .f32 0x3F266666#32))
        (broadcastInDim S512 ![] bcast_S_S512 (constant (F := Ideal) S_ .f32 0x3F800000#32)))
      (broadcastInDim S512 ![] bcast_S_S512 (constant (F := Ideal) S_ .f32 0x00000000#32))) shapeCasts_S512_S512x1 := by
    unfold V
    simp only [hostOps0, hostOps0_1, hostOps0_2, hostOps0_3, hostOps0_4, List.flatten_cons, List.flatten_nil, List.append_nil,
      List.cons_append, List.nil_append]
    after_results_simp
    dsimp only [TRef.toBuf, TRef.ofBuf, id, cast_eq]
    rfl
  rw [e]
  pointwise
  rw [h.bit, h.kind, slow_bits]
  unfold Args.scene
  dsimp only
  by_cases h2 : A.kind n = 4#32
  · by_cases h1 : A.bit n = 1#1 <;> simp [Scalar.select, IntOp.cmpi, h1, h2]
  · have h3 : (A.kind n == 4#32) = false := by simpa using h2
    by_cases h1 : A.bit n = 1#1 <;> simp [Scalar.select, IntOp.cmpi, h1, h2, h3]

end Cert.Risk
-- ==== Proof.Final.lean ====
/- The kernel's result array: the kernel's risk of every pair at every time step. -/
module

public import proofs.«01_k».proof.Proof.Factor

@[expose] public section

noncomputable section

namespace Cert.Risk

open Cert.KernelIdeal Cert.KernelIdeal.Gen Idealize.ShloMosaic Idealize.ShloMosaic.TcCoe Idealize.SL.Sem

variable {m : (ℓ : Loc nD τ sig) → Buf (Elt Ideal) ℓ} {c : Dev nD} {A : Args}

/-- The grid's point as a time step. -/
def time (t : Fin cfg0.N) : Fin 19 := t.cast N_0

theorem idx0 : ∀ t : Fin grid0.N, win0_0.index t 0 = 0 := by decide +kernel
theorem idx1 : ∀ t : Fin grid0.N, win0_1.index t 0 = t.val + 1 ∧ win0_1.index t 1 = 0 ∧ win0_1.index t 2 = 0 := by decide +kernel
theorem idx2 : ∀ t : Fin grid0.N, win0_2.index t 0 = t.val ∧ win0_2.index t 1 = 0 ∧ win0_2.index t 2 = 0 := by decide +kernel
theorem idx3 : ∀ t : Fin grid0.N, win0_3.index t 0 = t.val + 21 ∧ win0_3.index t 1 = 0 ∧ win0_3.index t 2 = 0 := by decide +kernel
theorem idx4 : ∀ t : Fin grid0.N, win0_4.index t 0 = t.val + 20 ∧ win0_4.index t 1 = 0 ∧ win0_4.index t 2 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 ∧ win0_6.index t 2 = 0 := by decide +kernel

theorem place0 (t : Fin cfg0.N) (k : Fin 12) : (win0_0.rect t).emb (ix1 k) = ix1 k := by
  funext a; apply Fin.ext
  refine (win0_0.rect_emb_val t _ a).trans ?_
  fin_cases a
  show win0_0.index t 0 * 12 + k.val = k.val
  rw [idx0 t]; omega

theorem place1 (t : Fin cfg0.N) (n : Fin 512) (k : Fin 40) (hk : k.val = 20 * 0 + (t.val + 1)) :
    (win0_1.rect t).emb (ix3 (0 : Fin 1) (0 : Fin 1) n) = ix3 k (0 : Fin 1) n := by
  funext a; apply Fin.ext
  refine (win0_1.rect_emb_val t _ a).trans ?_
  obtain ⟨e0, e1, e2⟩ := idx1 t
  fin_cases a
  · show win0_1.index t 0 * 1 + 0 = k.val
    rw [e0]; omega
  · show win0_1.index t 1 * 1 + 0 = 0
    rw [e1]
  · show win0_1.index t 2 * 512 + n.val = n.val
    rw [e2]; omega

theorem place2 (t : Fin cfg0.N) (n : Fin 512) (k : Fin 40) (hk : k.val = 20 * 0 + t.val) :
    (win0_2.rect t).emb (ix3 (0 : Fin 1) (0 : Fin 1) n) = ix3 k (0 : Fin 1) n := by
  funext a; apply Fin.ext
  refine (win0_2.rect_emb_val t _ a).trans ?_
  obtain ⟨e0, e1, e2⟩ := idx2 t
  fin_cases a
  · show win0_2.index t 0 * 1 + 0 = k.val
    rw [e0]; omega
  · show win0_2.index t 1 * 1 + 0 = 0
    rw [e1]
  · show win0_2.index t 2 * 512 + n.val = n.val
    rw [e2]; omega

theorem place3 (t : Fin cfg0.N) (n : Fin 512) (k : Fin 40) (hk : k.val = 20 * 1 + (t.val + 1)) :
    (win0_3.rect t).emb (ix3 (0 : Fin 1) (0 : Fin 1) n) = ix3 k (0 : Fin 1) n := by
  funext a; apply Fin.ext
  refine (win0_3.rect_emb_val t _ a).trans ?_
  obtain ⟨e0, e1, e2⟩ := idx3 t
  fin_cases a
  · show win0_3.index t 0 * 1 + 0 = k.val
    rw [e0]; omega
  · show win0_3.index t 1 * 1 + 0 = 0
    rw [e1]
  · show win0_3.index t 2 * 512 + n.val = n.val
    rw [e2]; omega

theorem place4 (t : Fin cfg0.N) (n : Fin 512) (k : Fin 40) (hk : k.val = 20 * 1 + t.val) :
    (win0_4.rect t).emb (ix3 (0 : Fin 1) (0 : Fin 1) n) = ix3 k (0 : Fin 1) n := by
  funext a; apply Fin.ext
  refine (win0_4.rect_emb_val t _ a).trans ?_
  obtain ⟨e0, e1, e2⟩ := idx4 t
  fin_cases a
  · show win0_4.index t 0 * 1 + 0 = k.val
    rw [e0]; omega
  · show win0_4.index t 1 * 1 + 0 = 0
    rw [e1]
  · show win0_4.index t 2 * 512 + n.val = n.val
    rw [e2]; omega

theorem place5 (t : Fin cfg0.N) (n : Fin 512) : (win0_5.rect t).emb (ix2 n (0 : Fin 1)) = ix2 n (0 : Fin 1) := by
  funext a; apply Fin.ext
  refine (win0_5.rect_emb_val t _ a).trans ?_
  obtain ⟨e0, e1⟩ := idx5 t
  fin_cases a
  · show win0_5.index t 0 * 512 + n.val = n.val
    rw [e0]; omega
  · show win0_5.index t 1 * 1 + 0 = 0
    rw [e1]

theorem att_at (h : HoldsAt m c A) (q : Fin 2) (t : Fin 20) (n : Fin 512) (k : Fin 40) (hk : k.val = 20 * q.val + t.val) :
    V m c main_v2 (ix3 k (0 : Fin 1) n) = ((A.pos n q t : ℝ) : EReal) := by
  obtain ⟨k, hk'⟩ := k
  obtain rfl : k = 20 * q.val + t.val := hk
  exact att_apply h q t n

theorem block0 (t : Fin cfg0.N) : iblk m c 0 t = fun y => V m c main_v75 ((win0_0.rect t).emb y) := rfl
theorem block1 (t : Fin cfg0.N) : iblk m c 1 t = fun y => V m c main_v2 ((win0_1.rect t).emb y) := rfl
theorem block2 (t : Fin cfg0.N) : iblk m c 2 t = fun y => V m c main_v2 ((win0_2.rect t).emb y) := rfl
theorem block3 (t : Fin cfg0.N) : iblk m c 3 t = fun y => V m c main_v2 ((win0_3.rect t).emb y) := rfl
theorem block4 (t : Fin cfg0.N) : iblk m c 4 t = fun y => V m c main_v2 ((win0_4.rect t).emb y) := rfl
theorem block5 (t : Fin cfg0.N) : iblk m c 5 t = fun y => V m c main_v90 ((win0_5.rect t).emb y) := rfl

/-- The blocks of a grid point hold the scene of its time step. -/
theorem staged (h : HoldsAt m c A) (t : Fin cfg0.N) :
    Staged (A.scene (time t)) (iblk m c 0 t) (iblk m c 1 t) (iblk m c 2 t) (iblk m c 3 t) (iblk m c 4 t) (iblk m c 5 t) := by
  have ht : t.val < 19 := (time t).isLt
  rw [block0, block1, block2, block3, block4, block5]
  refine ⟨fun k => ?_, fun n => ?_, fun n => ?_, fun n => ?_, fun n => ?_, fun n => ?_⟩ <;> dsimp only
  · rw [place0 t k]; exact words_apply h (time t) k
  · rw [place1 t n ⟨t.val + 1, by omega⟩ (by dsimp only; omega)]
    exact att_at h 0 (time t).succ n _ (by show t.val + 1 = 20 * 0 + (t.val + 1); omega)
  · rw [place2 t n ⟨t.val, by omega⟩ (by dsimp only; omega)]
    exact att_at h 0 (time t).castSucc n _ (by show t.val = 20 * 0 + t.val; omega)
  · rw [place3 t n ⟨t.val + 21, by omega⟩ (by dsimp only; omega)]
    exact att_at h 1 (time t).succ n _ (by show t.val + 21 = 20 * 1 + (t.val + 1); omega)
  · rw [place4 t n ⟨t.val + 20, by omega⟩ (by dsimp only; omega)]
    exact att_at h 1 (time t).castSucc n _ (by show t.val + 20 = 20 * 1 + t.val; omega)
  · rw [place5 t n]; exact fac_apply h (time t) n

/-- The final array at a time step and a pair. -/
theorem final_apply (h : HoldsAt m c A) (t : Fin 19) (i j : Fin 512) :
    (dats m 0 c).arrAt 6 cfg0.N (ix3 t i j) = (((A.scene t).risk' i j : ℝ) : EReal) := by
  have hb := Cert.KernelIdeal.Value.blocks6 m c (t.cast N_0.symm) (flush0_6 _)
  rw [Cert.KernelIdeal.Value.flushed6_A] at hb
  have hc := congrFun hb (ix3 (0 : Fin 1) i j)
  refine Eq.trans ?_ (hc.trans (tile_apply c _ _ _ _ _ _ _ _ _ _ _ _ _ _ _ (staged h (t.cast N_0.symm)) i j))
  show _ = (dats m 0 c).arrAt 6 cfg0.N ((win0_6.rect (t.cast N_0.symm)).emb _)
  congr 1
  funext a; apply Fin.ext
  refine Eq.trans ?_ (win0_6.rect_emb_val (t.cast N_0.symm) _ a).symm
  obtain ⟨e0, e1, e2⟩ := idx6 (t.cast N_0.symm)
  fin_cases a
  · show t.val = win0_6.index (t.cast N_0.symm) 0 * 1 + 0
    rw [e0]; show t.val = t.val * 1 + 0; omega
  · show i.val = win0_6.index (t.cast N_0.symm) 1 * 512 + i.val
    rw [e1]; omega
  · show j.val = win0_6.index (t.cast N_0.symm) 2 * 512 + j.val
    rw [e2]; omega

end Cert.Risk
-- ==== Proof.Refer.lean ====
/- The reference's named terms at an index: the numbers of the scene. -/
module

public import proofs.«01_k».proof.Proof.Args
public import proofs.«01_k».proof.Proof.Gen.ReferenceIdeal.Run

@[expose] public section

noncomputable section

namespace Cert.Risk.Refer

open Cert.ReferenceIdeal Cert.ReferenceIdeal.Gen Cert.ReferenceIdeal.Value Idealize.ShloMosaic Idealize.ShloMosaic.TcCoe Idealize.SL.Sem

/-- The reference's argument arrays hold the numbers. -/
abbrev HoldsOf (V : Valuation τ sig (Elt Ideal)) (A : Args) : Prop :=
  Holds A (V (Proc.devRef .tc main_arg0)) (V (Proc.devRef .tc main_arg1)) (V (Proc.devRef .tc main_arg5)) (V (Proc.devRef .tc main_arg6))
    (V (Proc.devRef .tc main_arg7)) (V (Proc.devRef .tc main_arg8)) (V (Proc.devRef .tc main_arg9)) (V (Proc.devRef .tc main_arg10))
    (V (Proc.devRef .tc main_arg11)) (V (Proc.devRef .tc main_arg12)) (V (Proc.devRef .tc main_arg13)) (V (Proc.devRef .tc main_arg14))
    (V (Proc.devRef .tc main_arg15)) (V (Proc.devRef .tc main_arg16)) (V (Proc.devRef .tc main_arg19)) (V (Proc.devRef .tc main_arg20))

variable {V : Valuation τ sig (Elt Ideal)} {A : Args}

/-- A bit as a number. -/
theorem bit_real (b : BitVec 1) : FloatOps.uitofp (F := Ideal) .f32 b = ((if b = 1#1 then 1 else 0 : ℝ) : EReal) := by
  have hb : b = 0#1 ∨ b = 1#1 := by
    revert b; decide
  rcases hb with rfl | rfl
  · show ((((0#1 : BitVec 1).toNat : ℕ) : ℝ) : EReal) = _
    simp
  · show ((((1#1 : BitVec 1).toNat : ℕ) : ℝ) : EReal) = _
    simp

theorem ofBool_one (p : Prop) [Decidable p] : BitVec.ofBool (decide p) = 1#1 ↔ p := by
  by_cases h : p <;> simp [h]

theorem v1_x (h : HoldsOf V A) (t : Fin 19) (n : Fin 512) :
    res_main_v1 V (ix3 t n (0 : Fin 2)) = (((A.scene t).x n : ℝ) : EReal) := by
  unfold res_main_v1 res_main_v0
  pointwise
  refine Eq.trans ?_ (h.pos n 0 t.succ)
  exact congrArg (fun k : Fin 20 => V (Proc.devRef .tc main_arg0) (ix3 n (0 : Fin 2) k)) (Fin.ext (Nat.add_comm 1 t.val))

theorem v1_y (h : HoldsOf V A) (t : Fin 19) (n : Fin 512) :
    res_main_v1 V (ix3 t n (1 : Fin 2)) = (((A.scene t).y n : ℝ) : EReal) := by
  unfold res_main_v1 res_main_v0
  pointwise
  refine Eq.trans ?_ (h.pos n 1 t.succ)
  exact congrArg (fun k : Fin 20 => V (Proc.devRef .tc main_arg0) (ix3 n (1 : Fin 2) k)) (Fin.ext (Nat.add_comm 1 t.val))

theorem v0_x (h : HoldsOf V A) (t : Fin 19) (n : Fin 512) (k : Fin 20) (hk : k = t.castSucc) :
    res_main_v0 V (ix3 k n (0 : Fin 2)) = (((A.scene t).px n : ℝ) : EReal) := by
  subst hk
  unfold res_main_v0
  pointwise
  exact h.pos n 0 t.castSucc

theorem v0_y (h : HoldsOf V A) (t : Fin 19) (n : Fin 512) (k : Fin 20) (hk : k = t.castSucc) :
    res_main_v0 V (ix3 k n (1 : Fin 2)) = (((A.scene t).py n : ℝ) : EReal) := by
  subst hk
  unfold res_main_v0
  pointwise
  exact h.pos n 1 t.castSucc

theorem v3_x (h : HoldsOf V A) (t : Fin 19) (n : Fin 512) :
    res_main_v3 V (ix3 t n (0 : Fin 2)) = (((A.scene t).dx n : ℝ) : EReal) := by
  unfold res_main_v3
  pointwise
  exact congrArg₂ (fun a b : EReal => a - b) (v1_x h t n) (v0_x h t n _ rfl)

theorem v3_y (h : HoldsOf V A) (t : Fin 19) (n : Fin 512) :
    res_main_v3 V (ix3 t n (1 : Fin 2)) = (((A.scene t).dy n : ℝ) : EReal) := by
  unfold res_main_v3
  pointwise
  exact congrArg₂ (fun a b : EReal => a - b) (v1_y h t n) (v0_y h t n _ rfl)

/-- Each pedestrian's speed. -/
theorem v10_apply (h : HoldsOf V A) (t : Fin 19) (n : Fin 512) :
    res_main_v10 V (ix2 t n) = (((A.scene t).speed n : ℝ) : EReal) := by
  unfold res_main_v10
  pointwise
  rw [Fin.sum_univ_two, v3_x h, v3_y h, eps_bits, half_bits]
  simp only [← EReal.coe_zero, ← EReal.coe_one, ← EReal.coe_add, ← EReal.coe_mul, ← EReal.coe_sub, EReal.coe_lt_coe_iff, EReal.coe_le_coe_iff,
    ite_real, atan2_real, len_real, div_half]
  rfl

/-- Each pedestrian's direction. -/
theorem v15_apply (h : HoldsOf V A) (t : Fin 19) (n : Fin 512) :
    res_main_v15 V (ix2 t n) = (((A.scene t).turn n : ℝ) : EReal) := by
  unfold res_main_v15
  pointwise
  rw [v3_x h, v3_y h]
  rfl

theorem v17_apply (h : HoldsOf V A) (t : Fin 19) :
    res_main_v17 V (ix2 t (0 : Fin 1)) = (((A.scene t).x 511 : ℝ) : EReal) := by
  unfold res_main_v17
  pointwise
  exact v1_x h t 511

theorem v19_apply (h : HoldsOf V A) (t : Fin 19) :
    res_main_v19 V (ix2 t (0 : Fin 1)) = (((A.scene t).y 511 : ℝ) : EReal) := by
  unfold res_main_v19
  pointwise
  exact v1_y h t 511

/-- Whether the last pedestrian is near. -/
theorem v38_apply (h : HoldsOf V A) (t : Fin 19) (n : Fin 512) :
    res_main_v38 V (ix2 t n) = (((A.scene t).near n : ℝ) : EReal) := by
  unfold res_main_v38 res_main_v25 res_main_v30
  pointwise
  rw [v1_x h, v1_y h, v17_apply h, v19_apply h, eps_bits, twelve_bits]
  simp only [← EReal.coe_zero, ← EReal.coe_one, ← EReal.coe_add, ← EReal.coe_mul, ← EReal.coe_sub, EReal.coe_lt_coe_iff, EReal.coe_le_coe_iff,
    ite_real, atan2_real, len_real, div_half]
  rw [bit_real]
  exact congrArg _ (if_congr (ofBool_one _) rfl rfl)

/-- The node values. -/
theorem v102_apply (h : HoldsOf V A) (t : Fin 19) (n : Fin 512) :
    res_main_v102 V (ix2 t n) = (((A.scene t).node n : ℝ) : EReal) := by
  unfold res_main_v102
  pointwise
  rw [Fin.sum_univ_four]
  simp only [v1_x h, v1_y h, v38_apply h, v17_apply h, v19_apply h, v10_apply h, v15_apply h, h.W1, h.W2, h.W3, h.W4, h.W5, h.b1, h.b2,
    h.b3, h.b4, h.b5]
  simp only [← EReal.coe_add, ← EReal.coe_mul]
  rfl

theorem v107_x (h : HoldsOf V A) (t : Fin 19) (i j : Fin 512) :
    res_main_v107 V (ix4 t i j (0 : Fin 2)) = (((A.scene t).gx i j : ℝ) : EReal) := by
  unfold res_main_v107
  pointwise
  rw [v1_x h, v1_x h]
  rfl

theorem v107_y (h : HoldsOf V A) (t : Fin 19) (i j : Fin 512) :
    res_main_v107 V (ix4 t i j (1 : Fin 2)) = (((A.scene t).gy i j : ℝ) : EReal) := by
  unfold res_main_v107
  pointwise
  rw [v1_y h, v1_y h]
  rfl

/-- The squared distances. -/
theorem v109_apply (h : HoldsOf V A) (t : Fin 19) (i j : Fin 512) :
    res_main_v109 V (ix3 t i j) = (((A.scene t).dist2 i j : ℝ) : EReal) := by
  unfold res_main_v109
  pointwise
  rw [Fin.sum_univ_two, v107_x h, v107_y h]
  rfl

/-- The directions of sight. -/
theorem v114_apply (h : HoldsOf V A) (t : Fin 19) (i j : Fin 512) :
    res_main_v114 V (ix3 t i j) = (((A.scene t).sight i j : ℝ) : EReal) := by
  unfold res_main_v114
  pointwise
  rw [v107_x h, v107_y h]
  rfl

theorem v115_apply (h : HoldsOf V A) (t : Fin 19) (n : Fin 512) :
    res_main_v115 V (ix3 t n (0 : Fin 1)) = (((A.scene t).turn n : ℝ) : EReal) := by
  unfold res_main_v115
  pointwise
  exact v15_apply h t n

/-- The reference's quarter turn is π/2. -/
theorem v119_apply (x : S_.Idx) : res_main_v119 V x = ((Real.pi / 2 : ℝ) : EReal) := by
  unfold res_main_v119
  pointwise
  rw [← EReal.coe_zero, ← EReal.coe_one, atan2_real]
  congr 1
  simp [ang]

/-- The reference's result as a term of the arguments. -/
def result (V : Valuation τ sig (Elt Ideal)) : FVec Ideal S19x512x512 .f32 :=
  mulf (mulf (mulf (mulf (Host.divf (mulf (Host.absf (subf (mulf (broadcastInDim S19x512x512 ![0, 1, 2] bcast_S19x512x1_S19x512x512_0_1_2 (broadcastInDim S19x512x1 ![0, 1] bcast_S19x512_S19x512x1_0_1 (res_main_v10 V))) (Host.cos (Host.absf (subf (broadcastInDim S19x512x512 ![0, 1, 2] bcast_S19x512x1_S19x512x512_0_1_2 (res_main_v115 V)) (res_main_v114 V))))) (mulf (broadcastInDim S19x512x512 ![0, 1, 2] bcast_S19x1x512_S19x512x512_0_1_2 (broadcastInDim S19x1x512 ![0, 2] bcast_S19x512_S19x1x512_0_2 (res_main_v10 V))) (Host.cos (Host.absf (subf (broadcastInDim S19x512x512 ![0, 1, 2] bcast_S19x1x512_S19x512x512_0_1_2 (broadcastInDim S19x1x512 ![0, 2] bcast_S19x512_S19x1x512_0_2 (res_main_v15 V))) (res_main_v114 V))))))) (Host.sqrt (res_main_v109 V))) (addf (res_main_v109 V) (broadcastInDim S19x512x512 ![] bcast_S_S19x512x512 (constant S_ .f32 0x2B8CBCCC#32)))) (addf (addf (broadcastInDim S19x512x512 ![0, 1, 2] bcast_S19x512x1_S19x512x512_0_1_2 (mulf (broadcastInDim S19x512x1 ![0, 1] bcast_S19x512_S19x512x1_0_1 (res_main_v102 V)) (broadcastInDim S19x512x1 ![] bcast_S_S19x512x1 (shapeCast _ (extractStridedSlice S1 ![0] (V (Proc.devRef .tc main_arg19)) slices_S2_S1_0) shapeCasts_S1_S_)))) (broadcastInDim S19x512x512 ![0, 1, 2] bcast_S19x1x512_S19x512x512_0_1_2 (mulf (broadcastInDim S19x1x512 ![0, 2] bcast_S19x512_S19x1x512_0_2 (res_main_v102 V)) (broadcastInDim S19x1x512 ![] bcast_S_S19x1x512 (shapeCast _ (extractStridedSlice S1 ![1] (V (Proc.devRef .tc main_arg19)) slices_S2_S1_1) shapeCasts_S1_S_))))) (broadcastInDim S19x512x512 ![] bcast_S_S19x512x512 (V (Proc.devRef .tc main_arg20))))) ((select (andi (cmpf .ogt (res_main_v114 V) (broadcastInDim S19x512x512 ![0, 1, 2] bcast_S19x512x1_S19x512x512_0_1_2 (subf (res_main_v115 V) (broadcastInDim S19x512x1 ![] bcast_S_S19x512x1 (res_main_v119 V))))) (cmpf .olt (res_main_v114 V) (broadcastInDim S19x512x512 ![0, 1, 2] bcast_S19x512x1_S19x512x512_0_1_2 (addf (res_main_v115 V) (broadcastInDim S19x512x1 ![] bcast_S_S19x512x1 (res_main_v119 V)))))) (broadcastInDim S19x512x512 ![0, 1, 2] bcast_S1x512x1_S19x512x512_0_1_2 (select (cmpi .eq (broadcastInDim S1x512x1 ![1] bcast_S512_S1x512x1_1 (V (Proc.devRef .tc main_arg6))) (broadcastInDim S1x512x1 ![] bcast_S_S1x512x1 (constantI S_ 32 4#32))) (broadcastInDim S1x512x1 ![] bcast_S_S1x512x1 (constant S_ .f32 0x3F266666#32)) (broadcastInDim S1x512x1 ![] bcast_S_S1x512x1 (constant S_ .f32 0x3F800000#32)))) (broadcastInDim S19x512x512 ![] bcast_S_S19x512x512 (constant S_ .f32 0x00000000#32))))) (broadcastInDim S19x512x512 ![0, 1, 2] bcast_S1x512x1_S19x512x512_0_1_2 (broadcastInDim S1x512x1 ![1] bcast_S512_S1x512x1_1 (uitofp .f32 (listed (V (Proc.devRef .tc main_arg5)) (V (Proc.devRef .tc main_arg1))))))) (broadcastInDim S19x512x512 ![0, 1, 2] bcast_S1x512x512_S19x512x512_0_1_2 (broadcastInDim S1x512x512 ![1, 2] bcast_S512x512_S1x512x512_1_2 (subf (broadcastInDim S512x512 ![] bcast_S_S512x512 (constant S_ .f32 0x3F800000#32)) (uitofp .f32 (cmpi .eq (addi (iotaInDim S512x512 32 0) (broadcastInDim S512x512 ![] bcast_S_S512x512 (constantI S_ 32 0#32))) (iotaInDim S512x512 32 1))))))

theorem cos_real (a : ℝ) : Ideal.cos (a : EReal) = ((Real.cos a : ℝ) : EReal) := rfl

/-- The identity matrix's element: whether the two numbers are equal. -/
theorem eye_real (i j : Fin 512) :
    FloatOps.uitofp (F := Ideal) .f32 (IntOp.cmpi .eq (IntOp.addi (BitVec.ofNat 32 i.val) 0#32) (BitVec.ofNat 32 j.val))
      = ((if i = j then 1 else 0 : ℝ) : EReal) := by
  rw [bit_real]
  refine congrArg _ (if_congr ?_ rfl rfl)
  show BitVec.ofBool (BitVec.ofNat 32 i.val + 0#32 == BitVec.ofNat 32 j.val) = 1#1 ↔ i = j
  rw [BitVec.add_zero]
  constructor
  · intro e
    have e' : BitVec.ofNat 32 i.val = BitVec.ofNat 32 j.val := by
      by_contra hne
      have hf : (BitVec.ofNat 32 i.val == BitVec.ofNat 32 j.val) = false := by simpa using hne
      rw [hf] at e
      exact absurd e (by decide)
    have e2 := congrArg BitVec.toNat e'
    rw [BitVec.toNat_ofNat, BitVec.toNat_ofNat] at e2
    apply Fin.ext
    omega
  · rintro rfl
    simp

theorem kind_real (k : BitVec 32) (a b : ℝ) :
    Scalar.select (IntOp.cmpi .eq k 4#32) (a : EReal) (b : EReal) = ((if k = 4#32 then a else b : ℝ) : EReal) := by
  by_cases h : k = 4#32
  · simp [Scalar.select, IntOp.cmpi, h]
  · have h' : (k == 4#32) = false := by simpa using h
    simp [Scalar.select, IntOp.cmpi, h, h']

/-- The reference's result at a time step and a pair. -/
theorem result_apply (h : HoldsOf V A) (t : Fin 19) (i j : Fin 512) :
    result V (ix3 t i j) = (((A.scene t).risk i j : ℝ) : EReal) := by
  have hd : (A.scene t).dist2 i j + eps ≠ 0 := (add_pos_of_nonneg_of_pos ((A.scene t).dist2_nonneg i j) eps_pos).ne'
  unfold result
  pointwise
  rw [h.kind, h.bit, eye_real, bit_real]
  simp only [v10_apply h, v114_apply h, v115_apply h, v15_apply h, v109_apply h, v102_apply h, v119_apply, eps_bits, slow_bits, h.Wr0, h.Wr1, h.br]
  simp only [← EReal.coe_zero, ← EReal.coe_one, ← EReal.coe_add, ← EReal.coe_mul, ← EReal.coe_sub, EReal.coe_lt_coe_iff, abs_real, cos_real,
    sqrt_real ((A.scene t).dist2_nonneg i j), div_real _ hd]
  rw [and_bits, select_real, kind_real]
  simp only [← EReal.coe_mul, ite_real]
  refine congrArg _ ?_
  unfold Scene.risk Scene.closing
  by_cases hf : (A.scene t).turn i - Real.pi / 2 < (A.scene t).sight i j ∧ (A.scene t).sight i j < (A.scene t).turn i + Real.pi / 2
  · rw [if_pos hf, if_pos hf]; rfl
  · rw [if_neg hf, if_neg hf, mul_zero, zero_mul, zero_mul]

end Cert.Risk.Refer
-- ==== Proof.Finite.lean ====
/- The precondition: argument arrays of finite elements hold real numbers. -/
module

public import proofs.«01_k».proof.Proof.Args
public import proofs.«01_k».proof.Proof.Gen.Pre_finite
public import Idealize.ShloMosaic.Lib.ReduceAll

@[expose] public section

noncomputable section

namespace Cert.Risk

open Cert.Pre_finite Cert.Pre_finite.Gen Idealize.ShloMosaic Idealize.ShloMosaic.TcCoe Idealize.SL.Sem

/-- A number whose magnitude lies under some other number is real. -/
theorem real_of_lt {x b : EReal} (h : FloatOps.absf (F := Ideal) (φ := .f32) x < b) : x = ((x.toReal : ℝ) : EReal) := by
  have h' : max x (-x) < b := h
  rw [max_lt_iff] at h'
  refine (EReal.coe_toReal ?_ ?_).symm
  · rintro rfl; exact absurd h'.1 not_top_lt
  · rintro rfl; exact absurd h'.2 (by rw [EReal.neg_bot]; exact not_top_lt)

theorem real_of_cmp {x b : EReal} (h : FloatOps.cmpf (F := Ideal) (φ := .f32) .olt (FloatOps.absf (F := Ideal) (φ := .f32) x) b = 1#1) :
    x = ((x.toReal : ℝ) : EReal) := by
  have h' : BitVec.ofBool (decide (FloatOps.absf (F := Ideal) (φ := .f32) x < b)) = 1#1 := h
  refine real_of_lt (b := b) ?_
  by_contra hn
  rw [decide_eq_false hn] at h'
  exact absurd h' (by decide)

theorem both (a b : BitVec 1) (h : IntOp.andi a b = 1#1) : a = 1#1 ∧ b = 1#1 := by
  revert a b; decide

instance : Subsingleton S_.Idx := ⟨fun a b => funext fun i => i.elim0⟩

/-- Finite argument arrays hold the numbers of a launch. -/
theorem exists_args {a : FVec Ideal S512x2x20 .f32} {start i2 : IVec S_ 32} {i3 : FVec Ideal S20x16x8 .f32} {i4 : FVec Ideal S20x16x16 .f32}
    {peds : IVec S256 32} {kinds : IVec S512 32} {W1 : FVec Ideal S2 .f32} {b1 : FVec Ideal S_ .f32} {W2 : FVec Ideal S2 .f32}
    {b2 : FVec Ideal S_ .f32} {W3 : FVec Ideal S2 .f32} {b3 : FVec Ideal S_ .f32} {W4 : FVec Ideal S2 .f32} {b4 : FVec Ideal S_ .f32}
    {W5 : FVec Ideal S4 .f32} {b5 : FVec Ideal S_ .f32} {W6 : FVec Ideal S4x64 .f32} {b6 : FVec Ideal S64 .f32}
    {Wr : FVec Ideal S2 .f32} {br : FVec Ideal S_ .f32}
    (h : fn (F := Ideal) a start i2 i3 i4 peds kinds W1 b1 W2 b2 W3 b3 W4 b4 W5 b5 W6 b6 Wr br = fun _ => 1#1) :
    ∃ A : Args, Holds A a start peds kinds W1 b1 W2 b2 W3 b3 W4 b4 W5 b5 Wr br := by
  have h := congrFun h ix0
  dsimp only [fn, fn_part1, fn_part2] at h
  obtain ⟨h, hbr⟩ := both _ _ h
  obtain ⟨h, hb5⟩ := both _ _ h
  obtain ⟨h, hb4⟩ := both _ _ h
  obtain ⟨h, hb3⟩ := both _ _ h
  obtain ⟨h, hb2⟩ := both _ _ h
  obtain ⟨h, hb1⟩ := both _ _ h
  obtain ⟨h, hWr⟩ := both _ _ h
  obtain ⟨h, hW5⟩ := both _ _ h
  obtain ⟨h, hW4⟩ := both _ _ h
  obtain ⟨h, hW3⟩ := both _ _ h
  obtain ⟨h, hW2⟩ := both _ _ h
  obtain ⟨ha, hW1⟩ := both _ _ h
  have one : ∀ (v : FVec Ideal S_ .f32) (i : S_.Idx), v i = v ix0 := fun v i => congrArg v (Subsingleton.elim _ _)
  obtain ⟨bits, hbits⟩ : ∃ bits : Fin 512 → BitVec 1, ∀ n, listed peds start (ix1 n) = bits n :=
    ⟨fun n => listed peds start (ix1 n), fun n => by with_reducible rfl⟩
  exact ⟨⟨fun n k t => (a (ix3 n k t)).toReal,
      ![fun k => (W1 (ix1 k)).toReal, fun k => (W2 (ix1 k)).toReal, fun k => (W3 (ix1 k)).toReal, fun k => (W4 (ix1 k)).toReal],
      ![(b1 ix0).toReal, (b2 ix0).toReal, (b3 ix0).toReal, (b4 ix0).toReal],
      fun k => (W5 (ix1 k)).toReal, (b5 ix0).toReal, (Wr (ix1 0)).toReal, (Wr (ix1 1)).toReal, (br ix0).toReal,
      fun n => kinds (ix1 n), bits⟩,
    { pos := fun n k t => real_of_cmp (Host.reduce_andi_all _ _ _ _ _ ha (ix3 n k t))
      W1 := fun k => real_of_cmp (Host.reduce_andi_all _ _ _ _ _ hW1 (ix1 k))
      W2 := fun k => real_of_cmp (Host.reduce_andi_all _ _ _ _ _ hW2 (ix1 k))
      W3 := fun k => real_of_cmp (Host.reduce_andi_all _ _ _ _ _ hW3 (ix1 k))
      W4 := fun k => real_of_cmp (Host.reduce_andi_all _ _ _ _ _ hW4 (ix1 k))
      b1 := fun i => (one b1 i).trans (real_of_cmp hb1)
      b2 := fun i => (one b2 i).trans (real_of_cmp hb2)
      b3 := fun i => (one b3 i).trans (real_of_cmp hb3)
      b4 := fun i => (one b4 i).trans (real_of_cmp hb4)
      W5 := fun k => real_of_cmp (Host.reduce_andi_all _ _ _ _ _ hW5 (ix1 k))
      b5 := fun i => (one b5 i).trans (real_of_cmp hb5)
      Wr0 := real_of_cmp (Host.reduce_andi_all _ _ _ _ _ hWr (ix1 0))
      Wr1 := real_of_cmp (Host.reduce_andi_all _ _ _ _ _ hWr (ix1 1))
      br := fun i => (one br i).trans (real_of_cmp hbr)
      kind := fun n => rfl
      bit := hbits }⟩

end Cert.Risk
-- ==== Proof.Results.lean ====
/- The two programs' results are equal: at every time step and pair, the kernel's risk is the reference's. -/
module

public import proofs.«01_k».proof.Defs
public import proofs.«01_k».proof.Proof.Final
public import proofs.«01_k».proof.Proof.Refer
public import proofs.«01_k».proof.Proof.Finite
public import proofs.«01_k».proof.Proof.Gen.ReferenceIdeal

@[expose] public section

noncomputable section

namespace Cert.Risk

open Cert.KernelIdeal Cert.KernelIdeal.Gen Idealize.ShloMosaic Idealize.ShloMosaic.TcCoe Idealize.SL.Sem

/-- Equal argument arrays hold the same numbers. -/
theorem Holds.congr {A : Args} {a a' : FVec Ideal S512x2x20 .f32}
    {start start' : IVec S_ 32}
    {peds peds' : IVec S256 32}
    {kinds kinds' : IVec S512 32}
    {W1 W1' : FVec Ideal S2 .f32}
    {b1 b1' : FVec Ideal S_ .f32}
    {W2 W2' : FVec Ideal S2 .f32}
    {b2 b2' : FVec Ideal S_ .f32}
    {W3 W3' : FVec Ideal S2 .f32}
    {b3 b3' : FVec Ideal S_ .f32}
    {W4 W4' : FVec Ideal S2 .f32}
    {b4 b4' : FVec Ideal S_ .f32}
    {W5 W5' : FVec Ideal S4 .f32}
    {b5 b5' : FVec Ideal S_ .f32}
    {Wr Wr' : FVec Ideal S2 .f32}
    {br br' : FVec Ideal S_ .f32}
    (h : Holds A a start peds kinds W1 b1 W2 b2 W3 b3 W4 b4 W5 b5 Wr br)
    (h_a : a' = a)
    (h_start : start' = start)
    (h_peds : peds' = peds)
    (h_kinds : kinds' = kinds)
    (h_W1 : W1' = W1)
    (h_b1 : b1' = b1)
    (h_W2 : W2' = W2)
    (h_b2 : b2' = b2)
    (h_W3 : W3' = W3)
    (h_b3 : b3' = b3)
    (h_W4 : W4' = W4)
    (h_b4 : b4' = b4)
    (h_W5 : W5' = W5)
    (h_b5 : b5' = b5)
    (h_Wr : Wr' = Wr)
    (h_br : br' = br) :
    Holds A a' start' peds' kinds' W1' b1' W2' b2' W3' b3' W4' b4' W5' b5' Wr' br' := by
  subst h_a h_start h_peds h_kinds h_W1 h_b1 h_W2 h_b2 h_W3 h_b3 h_W4 h_b4 h_W5 h_b5 h_Wr h_br
  exact h

/-- The kernel's result array is the reference's when the argument arrays hold the same numbers. -/
theorem results_equal {m : (ℓ : Loc nD τ sig) → Buf (Elt Ideal) ℓ} {c : Dev nD} {A : Args}
    {V : Valuation Cert.ReferenceIdeal.τ Cert.ReferenceIdeal.sig (Elt Ideal)} (h : HoldsAt m c A) (h' : Refer.HoldsOf V A) :
    Refer.result V = (dats m 0 c).arrAt 6 cfg0.N := by
  funext y
  obtain ⟨t, i, j, rfl⟩ : ∃ (t : Fin 19) (i j : Fin 512), y = ix3 t i j := ⟨y 0, y 1, y 2, eq_ix3 y⟩
  exact (Refer.result_apply h' t i j).trans
    ((congrArg (fun x : ℝ => (x : EReal)) ((A.scene t).risk_eq i j).symm).trans (final_apply h t i j).symm)

/-- The value claim. -/
theorem algebraic : Cert.algebraic_KernelIdeal_ReferenceIdeal_pre_finite := by
  intro m ρ m' ρ' hpre hagree
  refine ⟨fun c => (dats m 0 c).arrAt 6 cfg0.N, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨A, hA⟩ := exists_args (hpre c)
  have hagree := hagree c
  have hA' : Refer.HoldsOf (Idealize.ShloMosaic.StableHlo.launchContents m' c) A :=
    hA.congr hagree.1 hagree.2.1 hagree.2.2.2.2.2.1 hagree.2.2.2.2.2.2.1 hagree.2.2.2.2.2.2.2.1 hagree.2.2.2.2.2.2.2.2.1 hagree.2.2.2.2.2.2.2.2.2.1 hagree.2.2.2.2.2.2.2.2.2.2.1 hagree.2.2.2.2.2.2.2.2.2.2.2.1 hagree.2.2.2.2.2.2.2.2.2.2.2.2.1 hagree.2.2.2.2.2.2.2.2.2.2.2.2.2.1 hagree.2.2.2.2.2.2.2.2.2.2.2.2.2.2.1 hagree.2.2.2.2.2.2.2.2.2.2.2.2.2.2.2.1 hagree.2.2.2.2.2.2.2.2.2.2.2.2.2.2.2.2.1 hagree.2.2.2.2.2.2.2.2.2.2.2.2.2.2.2.2.2.2.2.1 hagree.2.2.2.2.2.2.2.2.2.2.2.2.2.2.2.2.2.2.2.2
  exact results_equal (m := m) (c := c) hA hA'

end Cert.Risk
-- ==== Proof.Frames.lean ====
/- The reference runs, keeps its arguments and leaves no semaphore counter: it has none. -/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Risk

open Idealize.ShloMosaic Idealize.SL.Sem

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Risk
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Results
public import proofs.«01_k».proof.Proof.Frames
public import Idealize.ShloMosaic.Adequacy
public import Idealize.ShloMosaic.Init

@[expose] public section

noncomputable section

namespace Cert.Proof

open Idealize.ShloMosaic Idealize.SL.Sem Cert.Kernel

/-- The certificate: the frames, the idealization and the equality of the results. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.Risk.frame_reference m ρ ⟨⟩,
  fun m ρ _ => Cert.Risk.frame_reference m ρ ⟨⟩,
  trivial,
  Cert.Risk.algebraic⟩

end Cert.Proof

end
